-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_v20) = v1 c
          ∧ r.2.mem ((c.tc : Thread Cert.Reference5Ideal.nD Cert.Reference5Ideal.τ).loc Cert.Reference5Ideal.main_v23) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_v22) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S16384x1024 : Shape := ⟨2, ![16384, 1024]⟩
abbrev S16x15x31 : Shape := ⟨3, ![16, 15, 31]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16x15x31 : S_.BroadcastsInDim S16x15x31 (![] : Fin 0 → Fin S16x15x31.rank)
  reducesTo_S16x15x31_S_d0_1_2 : S16x15x31.ReducesTo [0, 1, 2] S_

variable [Facts]

def fn {F : FTy → Type} [FloatOps F] (main_arg0 : FVec F S16384x1024 .f32) (main_arg1 : FVec F S16384x1024 .f32) (main_arg2 : FVec F S16384x1024 .f32) (main_arg3 : FVec F S16x15x31 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16x15x31 .f32 := Host.absf main_arg3
  let main_cst_2 : FVec F S_ .f32 := constant S_ .f32 0x7F800000#32
  let main_v10 : FVec F S16x15x31 .f32 := broadcastInDim S16x15x31 ![] bcast_S_S16x15x31 main_cst_2
  let main_v11 : IVec S16x15x31 1 := cmpf .olt main_v9 main_v10
  let main_c_3 : IVec S_ 1 := constantI S_ 1 1#1
  let main_v12 : IVec S_ 1 := (fun x v => Host.reduce IntOp.andi x v reducesTo_S16x15x31_S_d0_1_2 h_S_) main_v11 main_c_3
  let main_v13 : IVec S_ 1 := andi main_v8 main_v12
  main_v13
-- ==== Kernel.lean ====
abbrev S16384x1024 : Shape := ⟨2, ![16384, 1024]⟩
abbrev S16x15x31 : Shape := ⟨3, ![16, 15, 31]⟩
abbrev S_ : Shape := ⟨0, ![]⟩
abbrev S64x256x1024 : Shape := ⟨3, ![64, 256, 1024]⟩
abbrev S64x1024x256 : Shape := ⟨3, ![64, 1024, 256]⟩
abbrev S3x768x256 : Shape := ⟨3, ![3, 768, 256]⟩
abbrev S1x3x768x256 : Shape := ⟨4, ![1, 3, 768, 256]⟩
abbrev S3x768x256x1 : Shape := ⟨4, ![3, 768, 256, 1]⟩
abbrev S3x768x256x2 : Shape := ⟨4, ![3, 768, 256, 2]⟩
abbrev S16x3x768x256 : Shape := ⟨4, ![16, 3, 768, 256]⟩
abbrev S2048x128 : Shape := ⟨2, ![2048, 128]⟩
abbrev S8x128x256 : Shape := ⟨3, ![8, 128, 256]⟩
abbrev S2x3x768x256 : Shape := ⟨4, ![2, 3, 768, 256]⟩
abbrev S2x768x256 : Shape := ⟨3, ![2, 768, 256]⟩
abbrev S16x1x256 : Shape := ⟨3, ![16, 1, 256]⟩
abbrev S256x128 : Shape := ⟨2, ![256, 128]⟩
abbrev S16x768 : Shape := ⟨2, ![16, 768]⟩
abbrev S768x128 : Shape := ⟨2, ![768, 128]⟩
abbrev S768x256 : Shape := ⟨2, ![768, 256]⟩
abbrev S1x1x768x256 : Shape := ⟨4, ![1, 1, 768, 256]⟩
abbrev S1x768x256 : Shape := ⟨3, ![1, 768, 256]⟩
abbrev S256 : Shape := ⟨1, ![256]⟩
abbrev S1x256 : Shape := ⟨2, ![1, 256]⟩
abbrev S1x1x256 : Shape := ⟨3, ![1, 1, 256]⟩
abbrev S1x128x256 : Shape := ⟨3, ![1, 128, 256]⟩
abbrev S128x256 : Shape := ⟨2, ![128, 256]⟩
abbrev S128x768 : Shape := ⟨2, ![128, 768]⟩
abbrev S64x768 : Shape := ⟨2, ![64, 768]⟩
abbrev S80x768 : Shape := ⟨2, ![80, 768]⟩
abbrev S80x256 : Shape := ⟨2, ![80, 256]⟩
abbrev S64x256 : Shape := ⟨2, ![64, 256]⟩

abbrev nBuf : Space → Nat
  | .hbm => 117
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16x15x31, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .bf16⟩
  | .hbm, ⟨8, _⟩ => ⟨S16384x1024, .bf16⟩
  | .hbm, ⟨9, _⟩ => ⟨S16384x1024, .bf16⟩
  | .hbm, ⟨10, _⟩ => ⟨S64x256x1024, .bf16⟩
  | .hbm, ⟨11, _⟩ => ⟨S64x1024x256, .bf16⟩
  | .hbm, ⟨12, _⟩ => ⟨S3x768x256, .i32⟩
  | .hbm, ⟨13, _⟩ => ⟨S3x768x256, .i32⟩
  | .hbm, ⟨14, _⟩ => ⟨S3x768x256, .i32⟩
  | .hbm, ⟨15, _⟩ => ⟨S_, .i32⟩
  | .hbm, ⟨16, _⟩ => ⟨S3x768x256, .i32⟩
  | .hbm, ⟨17, _⟩ => ⟨S3x768x256, .i32⟩
  | .hbm, ⟨18, _⟩ => ⟨S_, .i32⟩
  | .hbm, ⟨19, _⟩ => ⟨S3x768x256, .i32⟩
  | .hbm, ⟨20, _⟩ => ⟨S3x768x256, .i32⟩
  | .hbm, ⟨21, _⟩ => ⟨S_, .i32⟩
  | .hbm, ⟨22, _⟩ => ⟨S3x768x256, .i32⟩
  | .hbm, ⟨23, _⟩ => ⟨S3x768x256, .i32⟩
  | .hbm, ⟨24, _⟩ => ⟨S_, .i32⟩
  | .hbm, ⟨25, _⟩ => ⟨S3x768x256, .i32⟩
  | .hbm, ⟨26, _⟩ => ⟨S3x768x256, .i32⟩
  | .hbm, ⟨27, _⟩ => ⟨S3x768x256, .i32⟩
  | .hbm, ⟨28, _⟩ => ⟨S_, .i32⟩
  | .hbm, ⟨29, _⟩ => ⟨S3x768x256, .i32⟩
  | .hbm, ⟨30, _⟩ => ⟨S3x768x256, .i32⟩
  | .hbm, ⟨31, _⟩ => ⟨S3x768x256, .i32⟩
  | .hbm, ⟨32, _⟩ => ⟨S_, .i32⟩
  | .hbm, ⟨33, _⟩ => ⟨S3x768x256, .i32⟩
  | .hbm, ⟨34, _⟩ => ⟨S3x768x256, .i1⟩
  | .hbm, ⟨35, _⟩ => ⟨S_, .i32⟩
  | .hbm, ⟨36, _⟩ => ⟨S3x768x256, .i32⟩
  | .hbm, ⟨37, _⟩ => ⟨S3x768x256, .i1⟩
  | .hbm, ⟨38, _⟩ => ⟨S_, .i32⟩
  | .hbm, ⟨39, _⟩ => ⟨S3x768x256, .i32⟩
  | .hbm, ⟨40, _⟩ => ⟨S3x768x256, .i1⟩
  | .hbm, ⟨41, _⟩ => ⟨S_, .i32⟩
  | .hbm, ⟨42, _⟩ => ⟨S3x768x256, .i32⟩
  | .hbm, ⟨43, _⟩ => ⟨S3x768x256, .i1⟩
  | .hbm, ⟨44, _⟩ => ⟨S_, .i32⟩
  | .hbm, ⟨45, _⟩ => ⟨S3x768x256, .i32⟩
  | .hbm, ⟨46, _⟩ => ⟨S3x768x256, .i1⟩
  | .hbm, ⟨47, _⟩ => ⟨S3x768x256, .i1⟩
  | .hbm, ⟨48, _⟩ => ⟨S_, .i32⟩
  | .hbm, ⟨49, _⟩ => ⟨S3x768x256, .i32⟩
  | .hbm, ⟨50, _⟩ => ⟨S3x768x256, .i1⟩
  | .hbm, ⟨51, _⟩ => ⟨S3x768x256, .i1⟩
  | .hbm, ⟨52, _⟩ => ⟨S3x768x256, .i1⟩
  | .hbm, ⟨53, _⟩ => ⟨S_, .i32⟩
  | .hbm, ⟨54, _⟩ => ⟨S3x768x256, .i32⟩
  | .hbm, ⟨55, _⟩ => ⟨S3x768x256, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S3x768x256, .i32⟩
  | .hbm, ⟨60, _⟩ => ⟨S3x768x256, .i32⟩
  | .hbm, ⟨61, _⟩ => ⟨S_, .i32⟩
  | .hbm, ⟨62, _⟩ => ⟨S3x768x256, .i32⟩
  | .hbm, ⟨63, _⟩ => ⟨S3x768x256, .i32⟩
  | .hbm, ⟨64, _⟩ => ⟨S3x768x256, .i1⟩
  | .hbm, ⟨65, _⟩ => ⟨S3x768x256, .i1⟩
  | .hbm, ⟨66, _⟩ => ⟨S_, .i32⟩
  | .hbm, ⟨67, _⟩ => ⟨S3x768x256, .i32⟩
  | .hbm, ⟨68, _⟩ => ⟨S3x768x256, .i32⟩
  | .hbm, ⟨69, _⟩ => ⟨S3x768x256, .i1⟩
  | .hbm, ⟨70, _⟩ => ⟨S3x768x256, .i1⟩
  | .hbm, ⟨71, _⟩ => ⟨S_, .i32⟩
  | .hbm, ⟨72, _⟩ => ⟨S3x768x256, .i32⟩
  | .hbm, ⟨73, _⟩ => ⟨S3x768x256, .i32⟩
  | .hbm, ⟨74, _⟩ => ⟨S_, .i32⟩
  | .hbm, ⟨75, _⟩ => ⟨S3x768x256, .i32⟩
  | .hbm, ⟨76, _⟩ => ⟨S3x768x256, .i32⟩
  | .hbm, ⟨77, _⟩ => ⟨S_, .i32⟩
  | .hbm, ⟨78, _⟩ => ⟨S_, .i32⟩
  | .hbm, ⟨79, _⟩ => ⟨S3x768x256, .i32⟩
  | .hbm, ⟨80, _⟩ => ⟨S3x768x256, .i32⟩
  | .hbm, ⟨81, _⟩ => ⟨S3x768x256, .i32⟩
  | .hbm, ⟨82, _⟩ => ⟨S_, .i32⟩
  | .hbm, ⟨83, _⟩ => ⟨S3x768x256, .i32⟩
  | .hbm, ⟨84, _⟩ => ⟨S3x768x256, .i32⟩
  | .hbm, ⟨85, _⟩ => ⟨S_, .i32⟩
  | .hbm, ⟨86, _⟩ => ⟨S3x768x256, .i32⟩
  | .hbm, ⟨87, _⟩ => ⟨S3x768x256, .i32⟩
  | .hbm, ⟨88, _⟩ => ⟨S_, .i32⟩
  | .hbm, ⟨89, _⟩ => ⟨S_, .i32⟩
  | .hbm, ⟨90, _⟩ => ⟨S3x768x256, .i32⟩
  | .hbm, ⟨91, _⟩ => ⟨S3x768x256, .i32⟩
  | .hbm, ⟨92, _⟩ => ⟨S1x3x768x256, .i1⟩
  | .hbm, ⟨93, _⟩ => ⟨S_, .i32⟩
  | .hbm, ⟨94, _⟩ => ⟨S3x768x256, .i32⟩
  | .hbm, ⟨95, _⟩ => ⟨S3x768x256, .i1⟩
  | .hbm, ⟨96, _⟩ => ⟨S_, .i32⟩
  | .hbm, ⟨97, _⟩ => ⟨S3x768x256, .i32⟩
  | .hbm, ⟨98, _⟩ => ⟨S3x768x256, .i32⟩
  | .hbm, ⟨99, _⟩ => ⟨S3x768x256, .i32⟩
  | .hbm, ⟨100, _⟩ => ⟨S_, .i32⟩
  | .hbm, ⟨101, _⟩ => ⟨S3x768x256, .i32⟩
  | .hbm, ⟨102, _⟩ => ⟨S3x768x256, .i1⟩
  | .hbm, ⟨103, _⟩ => ⟨S_, .i32⟩
  | .hbm, ⟨104, _⟩ => ⟨S3x768x256, .i32⟩
  | .hbm, ⟨105, _⟩ => ⟨S3x768x256, .i32⟩
  | .hbm, ⟨106, _⟩ => ⟨S3x768x256, .i32⟩
  | .hbm, ⟨107, _⟩ => ⟨S3x768x256x1, .i32⟩
  | .hbm, ⟨108, _⟩ => ⟨S3x768x256x1, .i32⟩
  | .hbm, ⟨109, _⟩ => ⟨S3x768x256x2, .i32⟩
  | .hbm, ⟨110, _⟩ => ⟨S16x3x768x256, .f32⟩
  | .hbm, ⟨111, _⟩ => ⟨S_, .f32⟩
  | .hbm, ⟨112, _⟩ => ⟨S_, .f32⟩
  | .hbm, ⟨113, _⟩ => ⟨S16x3x768x256, .i1⟩
  | .hbm, ⟨114, _⟩ => ⟨S16x3x768x256, .f32⟩
  | .hbm, ⟨115, _⟩ => ⟨S16x3x768x256, .f32⟩
  | .hbm, ⟨116, _⟩ => ⟨S16384x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S8x128x256, .bf16⟩
  | .local _ .vmem, ⟨5, _⟩ => ⟨S8x128x256, .bf16⟩
  | .local _ .vmem, ⟨6, _⟩ => ⟨S2x3x768x256, .f32⟩
  | .local _ .vmem, ⟨7, _⟩ => ⟨S2x3x768x256, .f32⟩
  | .local _ .vmem, ⟨8, _⟩ => ⟨S2048x128, .bf16⟩
  | .local _ .vmem, ⟨9, _⟩ => ⟨S2048x128, .bf16⟩
  | .local _ .vmem, ⟨10, _⟩ => ⟨S2x768x256, .f32⟩
  | .local _ .vmem, ⟨11, _⟩ => ⟨S2x768x256, .f32⟩
  | .local _ .vmem, ⟨12, _⟩ => ⟨S16x1x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_c_7 : Ref sig .tc := ⟨.hbm, 41, rfl⟩
abbrev main_v28 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_10 : Ref sig .tc := ⟨.hbm, 53, rfl⟩
abbrev main_v37 : Ref sig .tc := ⟨.hbm, 54, rfl⟩
abbrev main_v38 : Ref sig .tc := ⟨.hbm, 55, rfl⟩
abbrev main_c_11 : Ref sig .tc := ⟨.hbm, 56, rfl⟩
abbrev main_c_12 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_13 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_14 : Ref sig .tc := ⟨.hbm, 71, rfl⟩
abbrev main_v46 : Ref sig .tc := ⟨.hbm, 72, rfl⟩
abbrev main_v47 : Ref sig .tc := ⟨.hbm, 73, rfl⟩
abbrev main_c_15 : Ref sig .tc := ⟨.hbm, 74, rfl⟩
abbrev main_v48 : Ref sig .tc := ⟨.hbm, 75, rfl⟩
abbrev main_v49 : Ref sig .tc := ⟨.hbm, 76, rfl⟩
abbrev main_c_16 : Ref sig .tc := ⟨.hbm, 77, rfl⟩
abbrev main_call3_v0 : Ref sig .tc := ⟨.hbm, 78, rfl⟩
abbrev main_call3_v1 : Ref sig .tc := ⟨.hbm, 79, rfl⟩
abbrev main_v50 : Ref sig .tc := ⟨.hbm, 80, rfl⟩
abbrev main_v51 : Ref sig .tc := ⟨.hbm, 81, rfl⟩
abbrev main_c_17 : Ref sig .tc := ⟨.hbm, 82, rfl⟩
abbrev main_v52 : Ref sig .tc := ⟨.hbm, 83, rfl⟩
abbrev main_v53 : Ref sig .tc := ⟨.hbm, 84, rfl⟩
abbrev main_c_18 : Ref sig .tc := ⟨.hbm, 85, rfl⟩
abbrev main_v54 : Ref sig .tc := ⟨.hbm, 86, rfl⟩
abbrev main_v55 : Ref sig .tc := ⟨.hbm, 87, rfl⟩
abbrev main_c_19 : Ref sig .tc := ⟨.hbm, 88, rfl⟩
abbrev main_call4_v0 : Ref sig .tc := ⟨.hbm, 89, rfl⟩
abbrev main_call4_v1 : Ref sig .tc := ⟨.hbm, 90, rfl⟩
abbrev main_v56 : Ref sig .tc := ⟨.hbm, 91, rfl⟩
abbrev main_v57 : Ref sig .tc := ⟨.hbm, 92, rfl⟩
abbrev main_c_20 : Ref sig .tc := ⟨.hbm, 93, rfl⟩
abbrev main_v58 : Ref sig .tc := ⟨.hbm, 94, rfl⟩
abbrev main_v59 : Ref sig .tc := ⟨.hbm, 95, rfl⟩
abbrev main_c_21 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_c_22 : Ref sig .tc := ⟨.hbm, 100, rfl⟩
abbrev main_v63 : Ref sig .tc := ⟨.hbm, 101, rfl⟩
abbrev main_v64 : Ref sig .tc := ⟨.hbm, 102, rfl⟩
abbrev main_c_23 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_24 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_v72 : Ref sig .tc := ⟨.hbm, 115, rfl⟩
abbrev main_v73 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_mult1 : BitVec 32 :=
  let c0_i32_0 : BitVec 32 := 0#32
  c0_i32_0
def k0_mult2 : BitVec 32 :=
  let c5_i32 : BitVec 32 := 5#32
  let c0_i32_1 : BitVec 32 := 0#32
  let c_m1_i32 : BitVec 32 := 4294967295#32
  let v10 : BitVec 32 := Scalar.maxsi c0_i32_1 c_m1_i32
  let v11 : BitVec 32 := Scalar.minsi c5_i32 v10
  let c256_i32 : BitVec 32 := 256#32
  let v12 : BitVec 32 := Scalar.muli v11 c256_i32
  v12
def k0_off1 (c_m1_i32 : BitVec 32) : Fin 2 → Nat :=
  let c5_i32 : BitVec 32 := 5#32
  let c0_i32_1 : BitVec 32 := 0#32
  let v10 : BitVec 32 := Scalar.maxsi c0_i32_1 c_m1_i32
  let v11 : BitVec 32 := Scalar.minsi c5_i32 v10
  let c256_i32 : BitVec 32 := 256#32
  let v12 : BitVec 32 := Scalar.muli v11 c256_i32
  let v13 : BitVec 32 := v12
  let v14 : Index := Scalar.indexCast v13
  let c0_2 : Index := 0#32
  ![v14.toNat, 0]
def k0_off2 (v_true : BitVec 1) (v_false : BitVec 1) : Fin 4 → Nat :=
  let c0_5 : Index := 0#32
  let c0_i32 : BitVec 32 := 0#32
  let c2_i32 : BitVec 32 := 2#32
  let c1_i32 : BitVec 32 := 1#32
  let v4 : BitVec 32 := Scalar.select v_false c2_i32 c1_i32
  let v5 : BitVec 32 := Scalar.select v_true c0_i32 v4
  let v20 : Index := Scalar.indexCast v5
  let c0_6 : Index := 0#32
  let c0_7 : Index := 0#32
  ![0, v20.toNat, 0, 0]
def k0_off2_at (r : Fin 2) : BitVec 1 × BitVec 1 :=
  if r.val < 1 then
    (1#1, 0#1)
  else
    (0#1, 1#1)
def k0_off3 (v_true : BitVec 1) (v_false : BitVec 1) : Fin 4 → Nat :=
  let c1 : Index := 1#32
  let c0_i32 : BitVec 32 := 0#32
  let c2_i32 : BitVec 32 := 2#32
  let c1_i32 : BitVec 32 := 1#32
  let v4 : BitVec 32 := Scalar.select v_false c2_i32 c1_i32
  let v5 : BitVec 32 := Scalar.select v_true c0_i32 v4
  let v37 : Index := Scalar.indexCast v5
  let c0_18 : Index := 0#32
  let c0_19 : Index := 0#32
  ![1, v37.toNat, 0, 0]
def k0_off3_at (r : Fin 2) : BitVec 1 × BitVec 1 :=
  if r.val < 1 then
    (1#1, 0#1)
  else
    (0#1, 1#1)
@[reducible] def k0_t1_loop : Scf.Loop 32 :=
  let c0_i32_28 : BitVec 32 := 0#32
  let c3_i32 : BitVec 32 := 3#32
  let v51 : BitVec 32 := Scalar.addi c0_i32_28 c3_i32
  let c1_i32_29 : BitVec 32 := 1#32
  ⟨c0_i32_28, v51, c1_i32_29⟩
def k0_mult3 (k0_t1 : Fin k0_t1_loop.trips) : BitVec 32 :=
  let c2_i32_120 : BitVec 32 := 2#32
  let c0_i32_28 : BitVec 32 := 0#32
  let c1_i32_29 : BitVec 32 := 1#32
  let arg10 : BitVec 32 := Scf.iv c0_i32_28 c1_i32_29 k0_t1
  let v201 : BitVec 32 := Scalar.muli c2_i32_120 arg10
  let c1_i32_121 : BitVec 32 := 1#32
  let v202 : BitVec 32 := Scalar.addi v201 c1_i32_121
  let c256_i32_126 : BitVec 32 := 256#32
  let v207 : BitVec 32 := Scalar.muli v202 c256_i32_126
  v207
def k0_off4 (k0_t1 : Fin k0_t1_loop.trips) (c1_i32_121 : BitVec 32) : Fin 2 → Nat :=
  let c2_i32_120 : BitVec 32 := 2#32
  let c0_i32_28 : BitVec 32 := 0#32
  let c1_i32_29 : BitVec 32 := 1#32
  let arg10 : BitVec 32 := Scf.iv c0_i32_28 c1_i32_29 k0_t1
  let v201 : BitVec 32 := Scalar.muli c2_i32_120 arg10
  let v202 : BitVec 32 := Scalar.addi v201 c1_i32_121
  let c256_i32_126 : BitVec 32 := 256#32
  let v207 : BitVec 32 := Scalar.muli v202 c256_i32_126
  let v208 : BitVec 32 := v207
  let v209 : Index := Scalar.indexCast v208
  let c0_127 : Index := 0#32
  ![v209.toNat, 0]
def k0_mult4 (k0_t1 : Fin k0_t1_loop.trips) : BitVec 32 :=
  let c5_i32_130 : BitVec 32 := 5#32
  let c0_i32_129 : BitVec 32 := 0#32
  let c2_i32_120 : BitVec 32 := 2#32
  let c0_i32_28 : BitVec 32 := 0#32
  let c1_i32_29 : BitVec 32 := 1#32
  let arg10 : BitVec 32 := Scf.iv c0_i32_28 c1_i32_29 k0_t1
  let v201 : BitVec 32 := Scalar.muli c2_i32_120 arg10
  let c1_i32_121 : BitVec 32 := 1#32
  let v202 : BitVec 32 := Scalar.addi v201 c1_i32_121
  let c1_i32_128 : BitVec 32 := 1#32
  let v212 : BitVec 32 := Scalar.subi v202 c1_i32_128
  let v213 : BitVec 32 := Scalar.maxsi c0_i32_129 v212
  let v214 : BitVec 32 := Scalar.minsi c5_i32_130 v213
  let c256_i32_131 : BitVec 32 := 256#32
  let v215 : BitVec 32 := Scalar.muli v214 c256_i32_131
  v215
def k0_off5 (k0_t1 : Fin k0_t1_loop.trips) (c1_i32_121 : BitVec 32) : Fin 2 → Nat :=
  let c5_i32_130 : BitVec 32 := 5#32
  let c0_i32_129 : BitVec 32 := 0#32
  let c2_i32_120 : BitVec 32 := 2#32
  let c0_i32_28 : BitVec 32 := 0#32
  let c1_i32_29 : BitVec 32 := 1#32
  let arg10 : BitVec 32 := Scf.iv c0_i32_28 c1_i32_29 k0_t1
  let v201 : BitVec 32 := Scalar.muli c2_i32_120 arg10
  let v202 : BitVec 32 := Scalar.addi v201 c1_i32_121
  let c1_i32_128 : BitVec 32 := 1#32
  let v212 : BitVec 32 := Scalar.subi v202 c1_i32_128
  let v213 : BitVec 32 := Scalar.maxsi c0_i32_129 v212
  let v214 : BitVec 32 := Scalar.minsi c5_i32_130 v213
  let c256_i32_131 : BitVec 32 := 256#32
  let v215 : BitVec 32 := Scalar.muli v214 c256_i32_131
  let v216 : BitVec 32 := v215
  let v217 : Index := Scalar.indexCast v216
  let c0_132 : Index := 0#32
  ![v217.toNat, 0]
def k0_off6 (k0_t1 : Fin k0_t1_loop.trips) (c1_i32_121 : BitVec 32) : Fin 4 → Nat :=
  let c0_135 : Index := 0#32
  let c2_i32_120 : BitVec 32 := 2#32
  let c0_i32_28 : BitVec 32 := 0#32
  let c1_i32_29 : BitVec 32 := 1#32
  let arg10 : BitVec 32 := Scf.iv c0_i32_28 c1_i32_29 k0_t1
  let v201 : BitVec 32 := Scalar.muli c2_i32_120 arg10
  let v202 : BitVec 32 := Scalar.addi v201 c1_i32_121
  let c0_i32_122 : BitVec 32 := 0#32
  let v203 : BitVec 1 := Scalar.cmpi .eq v202 c0_i32_122
  let c0_i32_125 : BitVec 32 := 0#32
  let c7_i32 : BitVec 32 := 7#32
  let v204 : BitVec 1 := Scalar.cmpi .eq v202 c7_i32
  let c2_i32_123 : BitVec 32 := 2#32
  let c1_i32_124 : BitVec 32 := 1#32
  let v205 : BitVec 32 := Scalar.select v204 c2_i32_123 c1_i32_124
  let v206 : BitVec 32 := Scalar.select v203 c0_i32_125 v205
  let v223 : Index := Scalar.indexCast v206
  let c0_136 : Index := 0#32
  let c0_137 : Index := 0#32
  ![0, v223.toNat, 0, 0]
def k0_off7 (k0_t1 : Fin k0_t1_loop.trips) (c1_i32_121 : BitVec 32) : Fin 4 → Nat :=
  let c1_148 : Index := 1#32
  let c2_i32_120 : BitVec 32 := 2#32
  let c0_i32_28 : BitVec 32 := 0#32
  let c1_i32_29 : BitVec 32 := 1#32
  let arg10 : BitVec 32 := Scf.iv c0_i32_28 c1_i32_29 k0_t1
  let v201 : BitVec 32 := Scalar.muli c2_i32_120 arg10
  let v202 : BitVec 32 := Scalar.addi v201 c1_i32_121
  let c0_i32_122 : BitVec 32 := 0#32
  let v203 : BitVec 1 := Scalar.cmpi .eq v202 c0_i32_122
  let c0_i32_125 : BitVec 32 := 0#32
  let c7_i32 : BitVec 32 := 7#32
  let v204 : BitVec 1 := Scalar.cmpi .eq v202 c7_i32
  let c2_i32_123 : BitVec 32 := 2#32
  let c1_i32_124 : BitVec 32 := 1#32
  let v205 : BitVec 32 := Scalar.select v204 c2_i32_123 c1_i32_124
  let v206 : BitVec 32 := Scalar.select v203 c0_i32_125 v205
  let v240 : Index := Scalar.indexCast v206
  let c0_149 : Index := 0#32
  let c0_150 : Index := 0#32
  ![1, v240.toNat, 0, 0]
def k0_off8 (k0_t1 : Fin k0_t1_loop.trips) (c0_i32_162 : BitVec 32) : Fin 3 → Nat :=
  let c5_i32_161 : BitVec 32 := 5#32
  let c0_i32_160 : BitVec 32 := 0#32
  let c2_i32_120 : BitVec 32 := 2#32
  let c0_i32_28 : BitVec 32 := 0#32
  let c1_i32_29 : BitVec 32 := 1#32
  let arg10 : BitVec 32 := Scf.iv c0_i32_28 c1_i32_29 k0_t1
  let v201 : BitVec 32 := Scalar.muli c2_i32_120 arg10
  let c1_i32_159 : BitVec 32 := 1#32
  let v254 : BitVec 32 := Scalar.subi v201 c1_i32_159
  let v255 : BitVec 32 := Scalar.maxsi c0_i32_160 v254
  let v256 : BitVec 32 := Scalar.minsi c5_i32_161 v255
  let v257 : BitVec 32 := Scalar.addi v256 c0_i32_162
  let v258 : Index := Scalar.indexCast v257
  let c0_163 : Index := 0#32
  let c0_164 : Index := 0#32
  ![v258.toNat, 0, 0]
def k0_mult5 (k0_t1 : Fin k0_t1_loop.trips) : BitVec 32 :=
  let c2_i32_120 : BitVec 32 := 2#32
  let c0_i32_28 : BitVec 32 := 0#32
  let c1_i32_29 : BitVec 32 := 1#32
  let arg10 : BitVec 32 := Scf.iv c0_i32_28 c1_i32_29 k0_t1
  let v201 : BitVec 32 := Scalar.muli c2_i32_120 arg10
  let c256_i32_185 : BitVec 32 := 256#32
  let v303 : BitVec 32 := Scalar.muli v201 c256_i32_185
  v303
def k0_off9 (k0_t1 : Fin k0_t1_loop.trips) : Fin 2 → Nat :=
  let c2_i32_120 : BitVec 32 := 2#32
  let c0_i32_28 : BitVec 32 := 0#32
  let c1_i32_29 : BitVec 32 := 1#32
  let arg10 : BitVec 32 := Scf.iv c0_i32_28 c1_i32_29 k0_t1
  let v201 : BitVec 32 := Scalar.muli c2_i32_120 arg10
  let c256_i32_185 : BitVec 32 := 256#32
  let v303 : BitVec 32 := Scalar.muli v201 c256_i32_185
  let v304 : BitVec 32 := v303
  let v305 : Index := Scalar.indexCast v304
  let c0_186 : Index := 0#32
  ![v305.toNat, 0]
def k0_mult6 (k0_t1 : Fin k0_t1_loop.trips) : BitVec 32 :=
  let c2_i32_120 : BitVec 32 := 2#32
  let c0_i32_28 : BitVec 32 := 0#32
  let c1_i32_29 : BitVec 32 := 1#32
  let arg10 : BitVec 32 := Scf.iv c0_i32_28 c1_i32_29 k0_t1
  let v201 : BitVec 32 := Scalar.muli c2_i32_120 arg10
  let c2_i32_187 : BitVec 32 := 2#32
  let v307 : BitVec 32 := Scalar.addi v201 c2_i32_187
  let c256_i32_193 : BitVec 32 := 256#32
  let v312 : BitVec 32 := Scalar.muli v307 c256_i32_193
  v312
def k0_mult7 (k0_t1 : Fin k0_t1_loop.trips) : BitVec 32 :=
  let c5_i32_197 : BitVec 32 := 5#32
  let c0_i32_196 : BitVec 32 := 0#32
  let c2_i32_120 : BitVec 32 := 2#32
  let c0_i32_28 : BitVec 32 := 0#32
  let c1_i32_29 : BitVec 32 := 1#32
  let arg10 : BitVec 32 := Scf.iv c0_i32_28 c1_i32_29 k0_t1
  let v201 : BitVec 32 := Scalar.muli c2_i32_120 arg10
  let c2_i32_187 : BitVec 32 := 2#32
  let v307 : BitVec 32 := Scalar.addi v201 c2_i32_187
  let c1_i32_195 : BitVec 32 := 1#32
  let v317 : BitVec 32 := Scalar.subi v307 c1_i32_195
  let v318 : BitVec 32 := Scalar.maxsi c0_i32_196 v317
  let v319 : BitVec 32 := Scalar.minsi c5_i32_197 v318
  let c256_i32_198 : BitVec 32 := 256#32
  let v320 : BitVec 32 := Scalar.muli v319 c256_i32_198
  v320
def k0_off10 (k0_t1 : Fin k0_t1_loop.trips) (c0_i32_230 : BitVec 32) : Fin 3 → Nat :=
  let c5_i32_229 : BitVec 32 := 5#32
  let c0_i32_228 : BitVec 32 := 0#32
  let c2_i32_120 : BitVec 32 := 2#32
  let c0_i32_28 : BitVec 32 := 0#32
  let c1_i32_29 : BitVec 32 := 1#32
  let arg10 : BitVec 32 := Scf.iv c0_i32_28 c1_i32_29 k0_t1
  let v201 : BitVec 32 := Scalar.muli c2_i32_120 arg10
  let c1_i32_226 : BitVec 32 := 1#32
  let v359 : BitVec 32 := Scalar.addi v201 c1_i32_226
  let c1_i32_227 : BitVec 32 := 1#32
  let v360 : BitVec 32 := Scalar.subi v359 c1_i32_227
  let v361 : BitVec 32 := Scalar.maxsi c0_i32_228 v360
  let v362 : BitVec 32 := Scalar.minsi c5_i32_229 v361
  let v363 : BitVec 32 := Scalar.addi v362 c0_i32_230
  let v364 : Index := Scalar.indexCast v363
  let c0_231 : Index := 0#32
  let c0_232 : Index := 0#32
  ![v364.toNat, 0, 0]
def k0_mult8 (k0_t1 : Fin k0_t1_loop.trips) : BitVec 32 :=
  let c2_i32_120 : BitVec 32 := 2#32
  let c0_i32_28 : BitVec 32 := 0#32
  let c1_i32_29 : BitVec 32 := 1#32
  let arg10 : BitVec 32 := Scf.iv c0_i32_28 c1_i32_29 k0_t1
  let v201 : BitVec 32 := Scalar.muli c2_i32_120 arg10
  let c1_i32_226 : BitVec 32 := 1#32
  let v359 : BitVec 32 := Scalar.addi v201 c1_i32_226
  let c256_i32_253 : BitVec 32 := 256#32
  let v409 : BitVec 32 := Scalar.muli v359 c256_i32_253
  v409
def k0_mult9 : BitVec 32 :=
  let c1792_i32 : BitVec 32 := 1792#32
  c1792_i32
def k0_mult10 : BitVec 32 :=
  let c5_i32_38 : BitVec 32 := 5#32
  let c0_i32_37 : BitVec 32 := 0#32
  let c6_i32 : BitVec 32 := 6#32
  let v58 : BitVec 32 := Scalar.maxsi c0_i32_37 c6_i32
  let v59 : BitVec 32 := Scalar.minsi c5_i32_38 v58
  let c256_i32_39 : BitVec 32 := 256#32
  let v60 : BitVec 32 := Scalar.muli v59 c256_i32_39
  v60
def k0_off11 (c5_i32_65 : BitVec 32) (c0_i32_68 : BitVec 32) : Fin 3 → Nat :=
  let c5_i32_67 : BitVec 32 := 5#32
  let c0_i32_66 : BitVec 32 := 0#32
  let v99 : BitVec 32 := Scalar.maxsi c0_i32_66 c5_i32_65
  let v100 : BitVec 32 := Scalar.minsi c5_i32_67 v99
  let v101 : BitVec 32 := Scalar.addi v100 c0_i32_68
  let v102 : Index := Scalar.indexCast v101
  let c0_69 : Index := 0#32
  let c0_70 : Index := 0#32
  ![v102.toNat, 0, 0]
def k0_mult11 : BitVec 32 :=
  let c1536_i32 : BitVec 32 := 1536#32
  c1536_i32
def k0_mult12 : BitVec 32 :=
  let c1792_i32_118 : BitVec 32 := 1792#32
  c1792_i32_118
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x3x768x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16384x1024 : Shape := ⟨2, ![16384, 1024]⟩
abbrev S16x15x31 : Shape := ⟨3, ![16, 15, 31]⟩
abbrev S8x32x64x16x64 : Shape := ⟨5, ![8, 32, 64, 16, 64]⟩
abbrev S_ : Shape := ⟨0, ![]⟩
abbrev S64 : Shape := ⟨1, ![64]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x1x8x1 : Shape := ⟨4, ![32, 1, 8, 1]⟩
abbrev S1x64x1x16 : Shape := ⟨4, ![1, 64, 1, 16]⟩
abbrev S32x64x8x16 : Shape := ⟨4, ![32, 64, 8, 16]⟩
abbrev S32x64x8x16x1 : Shape := ⟨5, ![32, 64, 8, 16, 1]⟩
abbrev S32x64x8x16x2 : Shape := ⟨5, ![32, 64, 8, 16, 2]⟩
abbrev S8x32x64x8x16x16x64 : Shape := ⟨7, ![8, 32, 64, 8, 16, 16, 64]⟩
abbrev S8x32x64x128x16x64 : Shape := ⟨6, ![8, 32, 64, 128, 16, 64]⟩
abbrev S8x32x64x16x128 : Shape := ⟨5, ![8, 32, 64, 16, 128]⟩
abbrev S16x32x64x8x16 : Shape := ⟨5, ![16, 32, 64, 8, 16]⟩
abbrev S16x32x64x128 : Shape := ⟨4, ![16, 32, 64, 128]⟩
abbrev S32x64x16x128 : Shape := ⟨4, ![32, 64, 16, 128]⟩
abbrev S1x32x64x16x128 : Shape := ⟨5, ![1, 32, 64, 16, 128]⟩
abbrev S8x32x64x16 : Shape := ⟨4, ![8, 32, 64, 16]⟩
abbrev S8x32x64x16x1 : Shape := ⟨5, ![8, 32, 64, 16, 1]⟩

abbrev nBuf : Space → Nat
  | .hbm => 147
  | .vmem => 0
  | .smem => 0
  | _ => 0

abbrev hbmTy0_0 (i : Nat) : BufTy := match i % 128 with
  | 0 => ⟨S16384x1024, .f32⟩
  | 1 => ⟨S16384x1024, .f32⟩
  | 2 => ⟨S16384x1024, .f32⟩
  | 3 => ⟨S16x15x31, .f32⟩
  | 4 => ⟨S8x32x64x16x64, .f32⟩
  | 5 => ⟨S_, .f32⟩
  | 6 => ⟨S8x32x64x16x64, .f32⟩
  | 7 => ⟨S8x32x64x16x64, .f32⟩
  | 8 => ⟨S8x32x64x16x64, .f32⟩
  | 9 => ⟨S8x32x64x16x64, .f32⟩
  | 10 => ⟨S64, .i32⟩
  | 11 => ⟨S_, .i32⟩
  | 12 => ⟨S64, .i32⟩
  | 13 => ⟨S64, .i32⟩
  | 14 => ⟨S_, .i32⟩
  | 15 => ⟨S_, .i32⟩
  | 16 => ⟨S_, .i32⟩
  | 17 => ⟨S64, .i32⟩
  | 18 => ⟨S64, .i32⟩
  | 19 => ⟨S_, .i32⟩
  | 20 => ⟨S64, .i32⟩
  | 21 => ⟨S64, .i32⟩
  | 22 => ⟨S64x1, .i32⟩
  | 23 => ⟨S16, .i32⟩
  | 24 => ⟨S1x16, .i32⟩
  | 25 => ⟨S64x16, .i32⟩
  | 26 => ⟨S64x16, .i32⟩
  | 27 => ⟨S64x16, .i32⟩
  | 28 => ⟨S64x1, .i32⟩
  | 29 => ⟨S64x16, .i32⟩
  | 30 => ⟨S64x16, .i32⟩
  | 31 => ⟨S_, .i32⟩
  | 32 => ⟨S64x16, .i32⟩
  | 33 => ⟨S64x16, .i32⟩
  | 34 => ⟨S32, .i32⟩
  | 35 => ⟨S_, .i32⟩
  | 36 => ⟨S32, .i32⟩
  | 37 => ⟨S32, .i32⟩
  | 38 => ⟨S_, .i32⟩
  | 39 => ⟨S_, .i32⟩
  | 40 => ⟨S_, .i32⟩
  | 41 => ⟨S32, .i32⟩
  | 42 => ⟨S32, .i32⟩
  | 43 => ⟨S_, .i32⟩
  | 44 => ⟨S32, .i32⟩
  | 45 => ⟨S32, .i32⟩
  | 46 => ⟨S32x1, .i32⟩
  | 47 => ⟨S8, .i32⟩
  | 48 => ⟨S1x8, .i32⟩
  | 49 => ⟨S32x8, .i32⟩
  | 50 => ⟨S32x8, .i32⟩
  | 51 => ⟨S32x8, .i32⟩
  | 52 => ⟨S32x1, .i32⟩
  | 53 => ⟨S32x8, .i32⟩
  | 54 => ⟨S32x8, .i32⟩
  | 55 => ⟨S_, .i32⟩
  | 56 => ⟨S32x8, .i32⟩
  | 57 => ⟨S32x8, .i32⟩
  | 58 => ⟨S32x1x8x1, .i32⟩
  | 59 => ⟨S1x64x1x16, .i32⟩
  | 60 => ⟨S_, .i32⟩
  | 61 => ⟨S32x1x8x1, .i32⟩
  | 62 => ⟨S32x1x8x1, .i1⟩
  | 63 => ⟨S_, .i32⟩
  | 64 => ⟨S32x1x8x1, .i32⟩
  | 65 => ⟨S32x1x8x1, .i32⟩
  | 66 => ⟨S32x1x8x1, .i32⟩
  | 67 => ⟨S_, .i32⟩
  | 68 => ⟨S1x64x1x16, .i32⟩
  | 69 => ⟨S1x64x1x16, .i1⟩
  | 70 => ⟨S_, .i32⟩
  | 71 => ⟨S1x64x1x16, .i32⟩
  | 72 => ⟨S1x64x1x16, .i32⟩
  | 73 => ⟨S1x64x1x16, .i32⟩
  | 74 => ⟨S32x64x8x16, .i32⟩
  | 75 => ⟨S32x64x8x16, .i32⟩
  | 76 => ⟨S32x64x8x16x1, .i32⟩
  | 77 => ⟨S32x64x8x16x1, .i32⟩
  | 78 => ⟨S32x64x8x16x2, .i32⟩
  | 79 => ⟨S8x32x64x8x16x16x64, .f32⟩
  | 80 => ⟨S8x32x64x128x16x64, .f32⟩
  | 81 => ⟨S_, .i32⟩
  | 82 => ⟨S32x1x8x1, .i32⟩
  | 83 => ⟨S32x1x8x1, .i1⟩
  | 84 => ⟨S_, .i32⟩
  | 85 => ⟨S32x1x8x1, .i32⟩
  | 86 => ⟨S32x1x8x1, .i32⟩
  | 87 => ⟨S32x1x8x1, .i32⟩
  | 88 => ⟨S_, .i32⟩
  | 89 => ⟨S1x64x1x16, .i32⟩
  | 90 => ⟨S1x64x1x16, .i1⟩
  | 91 => ⟨S_, .i32⟩
  | 92 => ⟨S1x64x1x16, .i32⟩
  | 93 => ⟨S1x64x1x16, .i32⟩
  | 94 => ⟨S1x64x1x16, .i32⟩
  | 95 => ⟨S32x64x8x16, .i32⟩
  | 96 => ⟨S32x64x8x16, .i32⟩
  | 97 => ⟨S32x64x8x16x1, .i32⟩
  | 98 => ⟨S32x64x8x16x1, .i32⟩
  | 99 => ⟨S32x64x8x16x2, .i32⟩
  | 100 => ⟨S8x32x64x8x16x16x64, .f32⟩
  | 101 => ⟨S8x32x64x128x16x64, .f32⟩
  | 102 => ⟨S8x32x64x16x128, .f32⟩
  | 103 => ⟨S32x1x8x1, .i32⟩
  | 104 => ⟨S1x64x1x16, .i32⟩
  | 105 => ⟨S_, .i32⟩
  | 106 => ⟨S32x1x8x1, .i32⟩
  | 107 => ⟨S32x1x8x1, .i1⟩
  | 108 => ⟨S_, .i32⟩
  | 109 => ⟨S32x1x8x1, .i32⟩
  | 110 => ⟨S32x1x8x1, .i32⟩
  | 111 => ⟨S32x1x8x1, .i32⟩
  | 112 => ⟨S_, .i32⟩
  | 113 => ⟨S1x64x1x16, .i32⟩
  | 114 => ⟨S1x64x1x16, .i1⟩
  | 115 => ⟨S_, .i32⟩
  | 116 => ⟨S1x64x1x16, .i32⟩
  | 117 => ⟨S1x64x1x16, .i32⟩
  | 118 => ⟨S1x64x1x16, .i32⟩
  | 119 => ⟨S32x64x8x16, .i32⟩
  | 120 => ⟨S32x64x8x16, .i32⟩
  | 121 => ⟨S32x64x8x16x1, .i32⟩
  | 122 => ⟨S32x64x8x16x1, .i32⟩
  | 123 => ⟨S32x64x8x16x2, .i32⟩
  | 124 => ⟨S16x32x64x8x16, .f32⟩
  | 125 => ⟨S16x32x64x128, .f32⟩
  | 126 => ⟨S32x64x16x128, .f32⟩
  | 127 => ⟨S1x32x64x16x128, .f32⟩
  | _ => ⟨S16384x1024, .f32⟩

abbrev hbmTy0_1 (i : Nat) : BufTy := match i % 128 with
  | 0 => ⟨S8x32x64x16x128, .f32⟩
  | 1 => ⟨S8x32x64x16x128, .f32⟩
  | 2 => ⟨S_, .f32⟩
  | 3 => ⟨S8x32x64x16, .f32⟩
  | 4 => ⟨S_, .f32⟩
  | 5 => ⟨S8x32x64x16, .f32⟩
  | 6 => ⟨S8x32x64x16, .f32⟩
  | 7 => ⟨S8x32x64x16x1, .f32⟩
  | 8 => ⟨S8x32x64x16x128, .f32⟩
  | 9 => ⟨S8x32x64x16x128, .f32⟩
  | 10 => ⟨S8x32x64x16x128, .f32⟩
  | 11 => ⟨S_, .f32⟩
  | 12 => ⟨S8x32x64x16, .f32⟩
  | 13 => ⟨S8x32x64x16x1, .f32⟩
  | 14 => ⟨S8x32x64x16x128, .f32⟩
  | 15 => ⟨S8x32x64x16x128, .f32⟩
  | 16 => ⟨S8x32x64x16x64, .f32⟩
  | 17 => ⟨S16384x1024, .f32⟩
  | 18 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_c_5 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_c_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_c_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_15 : Ref sig .tc := ⟨.hbm, 105, rfl⟩
abbrev main_v74 : Ref sig .tc := ⟨.hbm, 106, rfl⟩
abbrev main_v75 : Ref sig .tc := ⟨.hbm, 107, rfl⟩
abbrev main_c_16 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_19 : Ref sig .tc := ⟨.hbm, 130, rfl⟩
abbrev main_v95 : Ref sig .tc := ⟨.hbm, 131, rfl⟩
abbrev main_cst_20 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_21 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩

abbrev nD : Nat := 1
abbrev τ : Topo := Topo.v7x

variable {F : FTy → Type} [FloatOps F]
-- ==== Kernel2.lean ====
abbrev S16384x1024 : Shape := ⟨2, ![16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 15
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16384x1024 : Shape := ⟨2, ![16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 12
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== Kernel4.lean ====
abbrev S16384x1024 : Shape := ⟨2, ![16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 15
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x1024 : Shape := ⟨2, ![16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x3072 : Shape := ⟨2, ![1024, 3072]⟩
abbrev S1x1024 : Shape := ⟨2, ![1, 1024]⟩
abbrev S1024x1024 : Shape := ⟨2, ![1024, 1024]⟩
abbrev S64x1024x256 : Shape := ⟨3, ![64, 1024, 256]⟩
abbrev S512x1024 : Shape := ⟨2, ![512, 1024]⟩
abbrev S2x1024x256 : Shape := ⟨3, ![2, 1024, 256]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩
abbrev S1x1024x256 : Shape := ⟨3, ![1, 1024, 256]⟩

abbrev nBuf : Space → Nat
  | .hbm => 14
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S16384x1024, .bf16⟩
  | .hbm, ⟨12, _⟩ => ⟨S16384x1024, .bf16⟩
  | .hbm, ⟨13, _⟩ => ⟨S64x1024x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S2x1024x256, .bf16⟩
  | .local _ .vmem, ⟨11, _⟩ => ⟨S2x1024x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S16384x1024 : Shape := ⟨2, ![16384, 1024]⟩
abbrev S1024 : Shape := ⟨1, ![1024]⟩
abbrev S1024x3072 : Shape := ⟨2, ![1024, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S64x256x1024 : Shape := ⟨3, ![64, 256, 1024]⟩
abbrev S64x1024x256 : Shape := ⟨3, ![64, 1024, 256]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3072, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .bf16⟩
  | .hbm, ⟨27, _⟩ => ⟨S16384x1024, .bf16⟩
  | .hbm, ⟨28, _⟩ => ⟨S16384x1024, .bf16⟩
  | .hbm, ⟨29, _⟩ => ⟨S64x256x1024, .bf16⟩
  | .hbm, ⟨30, _⟩ => ⟨S64x1024x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S32x1024x512 : Shape := ⟨3, ![32, 1024, 512]⟩
abbrev S512x1024 : Shape := ⟨2, ![512, 1024]⟩
abbrev S1x1024x512 : Shape := ⟨3, ![1, 1024, 512]⟩
abbrev S512 : Shape := ⟨1, ![512]⟩
abbrev S512x1 : Shape := ⟨2, ![512, 1]⟩
abbrev S1024x512 : Shape := ⟨2, ![1024, 512]⟩

abbrev nBuf : Space → Nat
  | .hbm => 13
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x1024, .f32⟩
  | .hbm, ⟨6, _⟩ => ⟨S1024x1024, .bf16⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S16384x1024, .bf16⟩
  | .hbm, ⟨11, _⟩ => ⟨S16384x1024, .bf16⟩
  | .hbm, ⟨12, _⟩ => ⟨S32x1024x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024x512, .bf16⟩
  | .local _ .vmem, ⟨11, _⟩ => ⟨S1x1024x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S32x512x1024 : Shape := ⟨3, ![32, 512, 1024]⟩
abbrev S32x1024x512 : Shape := ⟨3, ![32, 1024, 512]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .bf16⟩
  | .hbm, ⟨28, _⟩ => ⟨S16384x1024, .bf16⟩
  | .hbm, ⟨29, _⟩ => ⟨S16384x1024, .bf16⟩
  | .hbm, ⟨30, _⟩ => ⟨S32x512x1024, .bf16⟩
  | .hbm, ⟨31, _⟩ => ⟨S32x1024x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.Shared.Loads.lean ====
module

public import Idealize.ShloMosaic.Lib.Pipeline.FrameBody
public import Idealize.ShloMosaic.Lib.Ring
public import Idealize.ShloMosaic.Lib.WholeRead
public import Idealize.ShloMosaic.Lib.WritesUnit
public import Idealize.ShloMosaic.Lib.Tactic
public import Idealize.ShloMosaic.Lib.WordCmp
public import Idealize.ShloMosaic.Lib.Claim

/-! # Windows of an array, and loads through them -/

@[expose] public section

set_option maxRecDepth 16384

noncomputable section

namespace Cert.Shared

open Idealize.ShloMosaic Idealize.ShloMosaic.TcCoe Idealize.ShloMosaic.Tactic

/-- The window of `X` of sizes `size` at offsets `off` (an index past the end wraps, which no use meets). -/
def win {s : Shape} {α : Type} (hs : ∀ a, 0 < s.size a) (size off : Fin s.rank → ℕ) (X : s.Idx → α) :
    (⟨s.rank, size⟩ : Shape).Idx → α :=
  fun i => X (fun a => ⟨(off a + (i a).val) % s.size a, Nat.mod_lt _ (hs a)⟩)

section Loads

variable {sg : RefSig} {Val : EltTy → Type} {κk : Kind} {sp : Space} {s : Shape} {e : EltTy}

/-- A load of a block held at the contents reading `X` is a window of `X`. -/
theorem readAt_win {m : Memref sg κk sp s e} (h : m.IsWhole) (X : s.Idx → Val e) {off off' size : Fin s.rank → ℕ}
    (hs : ∀ a, 0 < s.size a) (inb : ∀ a, off a + size a ≤ s.size a) (eo : off = off') :
    View.readAt Val m.view (Rect.unit (s := s) off size inb).toLoadRect (h.unread X) = win hs size off' X := by
  subst eo
  funext i
  refine (Memref.IsWhole.readAt_unread h X _ i).trans ?_
  unfold win
  congr 1
  funext a
  apply Fin.ext
  show off a + 1 * (i a).val = (off a + (i a).val) % s.size a
  have h1 := inb a
  have h2 : (i a).val < size a := (i a).isLt
  rw [Nat.mod_eq_of_lt (by omega), Nat.one_mul]

/-- A load of the whole of a block held at the contents reading `X` is `X`. -/
theorem readAt_whole {m : Memref sg κk sp s e} (h : m.IsWhole) (X : s.Idx → Val e) {off : Fin s.rank → ℕ}
    (inb : ∀ a, off a + s.size a ≤ s.size a) :
    View.readAt Val m.view (Rect.unit (s := s) off s.size inb).toLoadRect (h.unread X) = X := by
  funext i
  refine (Memref.IsWhole.readAt_unread h X _ i).trans ?_
  congr 1
  funext a
  apply Fin.ext
  show off a + 1 * (i a).val = (i a).val
  have h1 := inb a
  omega

/-- A store over the whole of a block is what is read back. -/
theorem read_whole (v : View sg κk sp s e) (f : v.ty.Contents Val) {off : Fin s.rank → ℕ}
    (inb : ∀ a, off a + s.size a ≤ s.size a) (w : s.Idx → Val e) (L : List (View.Piece Val s e)) :
    v.read Val (v.writes Val f ((⟨Rect.unit (s := s) off s.size inb, w⟩ : View.Piece Val s e) :: L)) = w := by
  funext i
  refine View.read_writes_cons_unit_of_mem v f inb w L i i rfl fun a => ?_
  have h1 := inb a
  omega

/-- A store that covers `i` is what is read back at `i`, -/
theorem read_hit (v : View sg κk sp s e) (f : v.ty.Contents Val) {off size : Fin s.rank → ℕ}
    (inb : ∀ a, off a + size a ≤ s.size a) (w : (Rect.unit (s := s) off size inb).shape.Idx → Val e) (L : List (View.Piece Val s e)) (i : s.Idx)
    (j : (Rect.unit (s := s) off size inb).shape.Idx) (h : ∀ a, (i a).val = off a + (j a).val) :
    v.read Val (v.writes Val f ((⟨Rect.unit (s := s) off size inb, w⟩ : View.Piece Val s e) :: L)) i = w j :=
  View.read_writes_cons_unit_of_mem v f inb w L i j rfl h

/-- and a store that misses `i` is not. -/
theorem read_miss (v : View sg κk sp s e) (f : v.ty.Contents Val) {off size : Fin s.rank → ℕ}
    (inb : ∀ a, off a + size a ≤ s.size a) (w : (Rect.unit (s := s) off size inb).shape.Idx → Val e) (L : List (View.Piece Val s e)) (i : s.Idx)
    (a : Fin s.rank) (h : (i a).val < off a ∨ off a + size a ≤ (i a).val) :
    v.read Val (v.writes Val f ((⟨Rect.unit (s := s) off size inb, w⟩ : View.Piece Val s e) :: L)) i = v.read Val (v.writes Val f L) i :=
  View.read_writes_cons_unit_of_not_mem v f inb w L i rfl a h

/-- A load of exactly the newest store's rectangle reads what it stored. -/
theorem readAt_hit (v : View sg κk sp s e) (f : v.ty.Contents Val) {off off' size : Fin s.rank → ℕ}
    (inb : ∀ a, off a + size a ≤ s.size a) (inb' : ∀ a, off' a + size a ≤ s.size a)
    (w : (Rect.unit (s := s) off' size inb').shape.Idx → Val e) (L : List (View.Piece Val s e)) (heq : off' = off) :
    View.readAt Val v (Rect.unit (s := s) off size inb).toLoadRect
      (v.writes Val f ((⟨Rect.unit (s := s) off' size inb', w⟩ : View.Piece Val s e) :: L)) = w := by
  subst heq
  funext i
  exact View.read_writes_cons_unit_of_mem v f inb' w L ((Rect.unit (s := s) off' size inb).toLoadRect.idx i) i rfl
    (fun a => by show off' a + 1 * (i a).val = off' a + (i a).val; omega)

/-- A load off the newest store's rectangle reads what was there before it. -/
theorem readAt_miss (v : View sg κk sp s e) (f : v.ty.Contents Val) {off off' size size' : Fin s.rank → ℕ}
    (inb : ∀ a, off a + size a ≤ s.size a) (inb' : ∀ a, off' a + size' a ≤ s.size a)
    (w : (Rect.unit (s := s) off' size' inb').shape.Idx → Val e) (L : List (View.Piece Val s e)) (a : Fin s.rank)
    (ha : off a + size a ≤ off' a ∨ off' a + size' a ≤ off a) :
    View.readAt Val v (Rect.unit (s := s) off size inb).toLoadRect
      (v.writes Val f ((⟨Rect.unit (s := s) off' size' inb', w⟩ : View.Piece Val s e) :: L))
      = View.readAt Val v (Rect.unit (s := s) off size inb).toLoadRect (v.writes Val f L) := by
  funext i
  refine View.read_writes_cons_unit_of_not_mem v f inb' w L ((Rect.unit (s := s) off size inb).toLoadRect.idx i) rfl a ?_
  show off a + 1 * (i a).val < off' a ∨ off' a + size' a ≤ off a + 1 * (i a).val
  have h2 : (i a).val < size a := (i a).isLt
  omega

theorem readAt_hit_self (v : View sg κk sp s e) (f : v.ty.Contents Val) {off size : Fin s.rank → ℕ}
    (inb inb' : ∀ a, off a + size a ≤ s.size a) (w : (Rect.unit (s := s) off size inb').shape.Idx → Val e)
    (L : List (View.Piece Val s e)) :
    View.readAt Val v (Rect.unit (s := s) off size inb).toLoadRect
      (v.writes Val f ((⟨Rect.unit (s := s) off size inb', w⟩ : View.Piece Val s e) :: L)) = w :=
  readAt_hit v f inb inb' w L rfl

theorem readAt_miss_ex (v : View sg κk sp s e) (f : v.ty.Contents Val) {off off' size size' : Fin s.rank → ℕ}
    (inb : ∀ a, off a + size a ≤ s.size a) (inb' : ∀ a, off' a + size' a ≤ s.size a)
    (w : (Rect.unit (s := s) off' size' inb').shape.Idx → Val e) (L : List (View.Piece Val s e))
    (ha : ∃ a, off a + size a ≤ off' a ∨ off' a + size' a ≤ off a) :
    View.readAt Val v (Rect.unit (s := s) off size inb).toLoadRect
      (v.writes Val f ((⟨Rect.unit (s := s) off' size' inb', w⟩ : View.Piece Val s e) :: L))
      = View.readAt Val v (Rect.unit (s := s) off size inb).toLoadRect (v.writes Val f L) :=
  ha.elim fun a h => readAt_miss v f inb inb' w L a h

end Loads

end Cert.Shared

end
-- ==== Proof.Na.Spec.lean ====
module

public import proofs.«01_k».proof.Proof.Gen.KernelIdeal.Loops
public import proofs.«01_k».proof.Proof.Gen.KernelIdeal.Frame
public import proofs.«01_k».proof.Proof.Shared.Loads
public import Idealize.ShloMosaic.Lib.Pipeline.FrameBody
public import Idealize.ShloMosaic.Lib.Ring
public import Idealize.ShloMosaic.Lib.WholeRead
public import Idealize.ShloMosaic.Lib.WritesUnit
public import Idealize.ShloMosaic.Lib.Tactic
public import Idealize.ShloMosaic.Lib.WordCmp
public import Idealize.ShloMosaic.Lib.Claim

/-! # What the neighbourhood attention body computes

Query block `g` of eight attends a window of three key chunks. The scores of a block, their maxima and the output block
are stated as functions of the four inputs, and one trip of the loop is shown to carry them on. -/

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Shared

variable {F : FTy → Type} [FloatOps F] [Named F]

local notation "𝕄" => MT nD τ sig Unit (Elt F) ℕ (UR sig nD τ) ℕ

/-! ### The specification -/

/-- The first key chunk of query block `g`. -/
def chunk (g : ℕ) : ℕ := min (g - 1) 5

/-- The kind of bias table query block `g` uses: first block, last block, or any other. -/
def typ (g : ℕ) : ℕ := if g = 0 then 0 else if g = 7 then 2 else 1

/-- The queries of block `g`. -/
def qB (x0 : Vec F S2048x128 .bf16) (g : ℕ) : Vec F S256x128 .bf16 :=
  win (s := S2048x128) (by decide) S256x128.size ![256 * g, 0] x0

/-- The keys query block `g` sees. -/
def kB (x1 : Vec F S2048x128 .bf16) (g : ℕ) : Vec F S768x128 .bf16 :=
  win (s := S2048x128) (by decide) S768x128.size ![256 * chunk g, 0] x1

/-- Chunk `j` of the transposed values query block `g` sees. -/
def vB (x2 : Vec F S8x128x256 .bf16) (g j : ℕ) : Vec F S1x128x256 .bf16 :=
  win (s := S8x128x256) (by decide) S1x128x256.size ![chunk g + j, 0, 0] x2

/-- The bias of head `h` for query block `g`. -/
def bB (x3 : Vec F S2x3x768x256 .f32) (h g : ℕ) : Vec F S1x1x768x256 .f32 :=
  win (s := S2x3x768x256) (by decide) S1x1x768x256.size ![h, typ g, 0, 0] x3

variable (x0 : Vec F S2048x128 .bf16) (x1 : Vec F S2048x128 .bf16) (x2 : Vec F S8x128x256 .bf16) (x3 : Vec F S2x3x768x256 .f32)

/-- The scores of block `g`, first head. -/
def P0 (g : ℕ) : FVec F S1x768x256 .f32 := k0_pay6 k0_pay28 (qB x0 g) (kB x1 g) (bB x3 0 g)

/-- The scores of block `g`, second head. -/
def P1 (g : ℕ) : FVec F S1x768x256 .f32 := k0_pay10 k0_pay28 (k0_pay2 (qB x0 g)) (k0_pay3 (kB x1 g)) k0_pay4 (bB x3 1 g)

/-- Their maxima over the keys, first head. -/
def M0 (g : ℕ) : FVec F S1x1x256 .f32 := k0_pay8 (k0_pay7 k0_pay28 (qB x0 g) (kB x1 g) (bB x3 0 g))

/-- Their maxima over the keys, second head. -/
def M1 (g : ℕ) : FVec F S1x1x256 .f32 := k0_pay11 k0_pay28 (k0_pay2 (qB x0 g)) (k0_pay3 (kB x1 g)) k0_pay4 (bB x3 1 g)

/-- The output of query block `g`. -/
def OB (g : ℕ) : FVec F S256x128 .bf16 :=
  k0_pay14 k0_pay29 (k0_pay12 (vB x2 g 0)) (k0_pay13 (vB x2 g 1)) (vB x2 g 2)
    (P0 x0 x1 x3 g) (M0 x0 x1 x3 g) (P1 x0 x1 x3 g) (M1 x0 x1 x3 g)

/-- The output of the eight query blocks. -/
def naOut : Vec F S2048x128 .bf16 :=
  fun y => OB x0 x1 x2 x3 ((y 0).val / 256)
    (fun a => ⟨(y a).val % S256x128.size a, Nat.mod_lt _ ((by decide : ∀ a, 0 < S256x128.size a) a)⟩)

/-! ### The offsets one trip computes -/

variable (k : Fin k0_t1_loop.trips)

theorem off4_1 : k0_off4 k 1#32 = ![512 * k.val + 256, 0] := k0_off4_eq k 0
theorem off4_2 : k0_off4 k 2#32 = ![512 * k.val + 512, 0] := k0_off4_eq k 1
theorem off5_1 : k0_off5 k 1#32 = ![512 * k.val, 0] := k0_off5_eq k 0
theorem off5_2 : k0_off5 k 2#32 = ![512 * k.val + 256, 0] := k0_off5_eq k 1
theorem off6_1 : k0_off6 k 1#32 = ![0, 1, 0, 0] := k0_off6_eq k 0
theorem off6_2 : k0_off6 k 2#32 = ![0, 1, 0, 0] := k0_off6_eq k 1
theorem off7_1 : k0_off7 k 1#32 = ![1, 1, 0, 0] := k0_off7_eq k 0
theorem off7_2 : k0_off7 k 2#32 = ![1, 1, 0, 0] := k0_off7_eq k 1
theorem off8_j : ∀ (k : Fin k0_t1_loop.trips) (j : Fin 3), k0_off8 k (BitVec.ofNat 32 j.val) = ![chunk (2 * k.val) + j.val, 0, 0] := by
  decide +kernel
theorem off10_j (j : Fin 3) : k0_off10 k (BitVec.ofNat 32 j.val) = ![2 * k.val + j.val, 0, 0] := k0_off10_eq k j
theorem trips_lt : k.val < 3 := Nat.lt_of_lt_of_le k.isLt k0_t1_abs.2.1

/-- Before trip `n`, the rows of the first `2 n` query blocks hold the output. -/
def I6 (arg6 : Memref sig .tc .vmem S2048x128 .bf16) (n : ℕ) (g : BufTy.Contents (Elt F) arg6.view.ty) : Prop :=
  ∀ y : S2048x128.Idx, (y 0).val < 512 * n → View.read (Elt F) arg6.view g y = naOut x0 x1 x2 x3 y

/-- Before trip `n`, the first score buffer holds the scores of block `2 n`. -/
def I7 (arg7 : Memref sig .tc .vmem S2x768x256 .f32) (n : ℕ) (g : BufTy.Contents (Elt F) arg7.view.ty) : Prop :=
  View.readAt (Elt F) arg7.view (Rect.unit (s := S2x768x256) ![0, 0, 0] S1x768x256.size inb_S2x768x256_S1x768x256_0_0_0).toLoadRect g = P0 x0 x1 x3 (2 * n)
  ∧ View.readAt (Elt F) arg7.view (Rect.unit (s := S2x768x256) ![1, 0, 0] S1x768x256.size inb_S2x768x256_S1x768x256_1_0_0).toLoadRect g = P1 x0 x1 x3 (2 * n)

/-- Before trip `n`, the first two rows of the maxima are those of block `2 n`. -/
def I9 (arg9 : Memref sig .tc .vmem S16x1x256 .f32) (n : ℕ) (g : BufTy.Contents (Elt F) arg9.view.ty) : Prop :=
  View.readAt (Elt F) arg9.view (Rect.unit (s := S16x1x256) ![0, 0, 0] S1x1x256.size inb_S16x1x256_S1x1x256_0_0_0).toLoadRect g = M0 x0 x1 x3 (2 * n)
  ∧ View.readAt (Elt F) arg9.view (Rect.unit (s := S16x1x256) ![1, 0, 0] S1x1x256.size inb_S16x1x256_S1x1x256_1_0_0).toLoadRect g = M1 x0 x1 x3 (2 * n)

theorem qB_eq {arg2 : Memref sig .tc .vmem S2048x128 .bf16} (harg2 : arg2.IsWhole) {off : Fin 2 → ℕ} (inb) (g : ℕ) (h : off = ![256 * g, 0]) :
    View.readAt (Elt F) arg2.view (Rect.unit (s := S2048x128) off S256x128.size inb).toLoadRect (harg2.unread x0) = qB x0 g :=
  readAt_win harg2 x0 _ inb h

theorem kB_eq {arg3 : Memref sig .tc .vmem S2048x128 .bf16} (harg3 : arg3.IsWhole) {off : Fin 2 → ℕ} (inb) (g : ℕ) (h : off = ![256 * chunk g, 0]) :
    View.readAt (Elt F) arg3.view (Rect.unit (s := S2048x128) off S768x128.size inb).toLoadRect (harg3.unread x1) = kB x1 g :=
  readAt_win harg3 x1 _ inb h

theorem vB_eq {arg4 : Memref sig .tc .vmem S8x128x256 .bf16} (harg4 : arg4.IsWhole) {off : Fin 3 → ℕ} (inb) (g j : ℕ) (h : off = ![chunk g + j, 0, 0]) :
    View.readAt (Elt F) arg4.view (Rect.unit (s := S8x128x256) off S1x128x256.size inb).toLoadRect (harg4.unread x2) = vB x2 g j :=
  readAt_win harg4 x2 _ inb h

theorem bB_eq {arg5 : Memref sig .tc .vmem S2x3x768x256 .f32} (harg5 : arg5.IsWhole) {off : Fin 4 → ℕ} (inb) (h g : ℕ) (hh : off = ![h, typ g, 0, 0]) :
    View.readAt (Elt F) arg5.view (Rect.unit (s := S2x3x768x256) off S1x1x768x256.size inb).toLoadRect (harg5.unread x3) = bB x3 h g :=
  readAt_win harg5 x3 _ inb hh

theorem chunk_pos {g : ℕ} (h : g ≤ 6) : chunk g = g - 1 := by unfold chunk; omega
theorem typ_mid {g : ℕ} (h : 0 < g) (h' : g < 7) : typ g = 1 := by unfold typ; rw [if_neg (by omega), if_neg (by omega)]
theorem off4_1' : k0_off4 k 1#32 = ![256 * (2 * k.val + 1), 0] := by rw [off4_1]; congr 1; omega
theorem off4_2' : k0_off4 k 2#32 = ![256 * (2 * (k.val + 1)), 0] := by rw [off4_2]; congr 1; omega
theorem off9' : k0_off9 k = ![256 * (2 * k.val), 0] := by rw [k0_off9_eq]; congr 1; omega
theorem off5_1' : k0_off5 k 1#32 = ![256 * chunk (2 * k.val + 1), 0] := by
  have := trips_lt k; rw [off5_1, chunk_pos (by omega)]; congr 1; omega
theorem off5_2' : k0_off5 k 2#32 = ![256 * chunk (2 * (k.val + 1)), 0] := by
  have := trips_lt k; rw [off5_2, chunk_pos (by omega)]; congr 1; omega
theorem off6_1' : k0_off6 k 1#32 = ![0, typ (2 * k.val + 1), 0, 0] := by
  have := trips_lt k; rw [off6_1, typ_mid (by omega) (by omega)]
theorem off6_2' : k0_off6 k 2#32 = ![0, typ (2 * (k.val + 1)), 0, 0] := by
  have := trips_lt k; rw [off6_2, typ_mid (by omega) (by omega)]
theorem off7_1' : k0_off7 k 1#32 = ![1, typ (2 * k.val + 1), 0, 0] := by
  have := trips_lt k; rw [off7_1, typ_mid (by omega) (by omega)]
theorem off7_2' : k0_off7 k 2#32 = ![1, typ (2 * (k.val + 1)), 0, 0] := by
  have := trips_lt k; rw [off7_2, typ_mid (by omega) (by omega)]
theorem off10_j' (j : Fin 3) : k0_off10 k (BitVec.ofNat 32 j.val) = ![chunk (2 * k.val + 1) + j.val, 0, 0] := by
  have := trips_lt k; rw [off10_j, chunk_pos (by omega)]; congr 1

theorem off8_0 : k0_off8 k 0#32 = ![chunk (2 * k.val) + 0, 0, 0] := off8_j k 0
theorem off8_1 : k0_off8 k 1#32 = ![chunk (2 * k.val) + 1, 0, 0] := off8_j k 1
theorem off8_2 : k0_off8 k 2#32 = ![chunk (2 * k.val) + 2, 0, 0] := off8_j k 2
theorem off10_0 : k0_off10 k 0#32 = ![chunk (2 * k.val + 1) + 0, 0, 0] := off10_j' k 0
theorem off10_1 : k0_off10 k 1#32 = ![chunk (2 * k.val + 1) + 1, 0, 0] := off10_j' k 1
theorem off10_2 : k0_off10 k 2#32 = ![chunk (2 * k.val + 1) + 2, 0, 0] := off10_j' k 2

/-- Reading at row `y` of what a store of block `g`'s output left. -/
theorem read_block (arg6 : Memref sig .tc .vmem S2048x128 .bf16) (f : BufTy.Contents (Elt F) arg6.view.ty) (g : ℕ) {off : Fin 2 → ℕ}
    (inb : ∀ a, off a + S256x128.size a ≤ S2048x128.size a) (w : Vec F S256x128 .bf16)
    (L : List (View.Piece (Elt F) S2048x128 .bf16)) (y : S2048x128.Idx) (heq : off = ![256 * g, 0]) (hg : (y 0).val / 256 = g)
    (hw : w = OB x0 x1 x2 x3 g) :
    View.read (Elt F) arg6.view (arg6.view.writes (Elt F) f
      ((⟨Rect.unit (s := S2048x128) off S256x128.size inb, w⟩ : View.Piece (Elt F) S2048x128 .bf16) :: L)) y = naOut x0 x1 x2 x3 y := by
  subst hw
  refine (View.read_writes_cons_unit_of_mem (s := S2048x128) arg6.view f inb (OB x0 x1 x2 x3 g) L y
    (fun a => ⟨(y a).val % S256x128.size a, Nat.mod_lt _ ((by decide : ∀ a, 0 < S256x128.size a) a)⟩) heq ?_).trans ?_
  · have h1 : (y 1).val < 128 := (y 1).isLt
    refine Fin.forall_fin_two.mpr ⟨?_, ?_⟩
    · show (y 0).val = 256 * g + (y 0).val % 256
      omega
    · show (y 1).val = 0 + (y 1).val % 128
      omega
  · unfold naOut; rw [hg]

/-- Reading at a row no store of block `g`'s output meets. -/
theorem read_other (arg6 : Memref sig .tc .vmem S2048x128 .bf16) (f : BufTy.Contents (Elt F) arg6.view.ty) (g : ℕ) {off : Fin 2 → ℕ}
    (inb : ∀ a, off a + S256x128.size a ≤ S2048x128.size a) (w : Vec F S256x128 .bf16)
    (L : List (View.Piece (Elt F) S2048x128 .bf16)) (y : S2048x128.Idx) (heq : off = ![256 * g, 0]) (hg : (y 0).val / 256 ≠ g) :
    View.read (Elt F) arg6.view (arg6.view.writes (Elt F) f
      ((⟨Rect.unit (s := S2048x128) off S256x128.size inb, w⟩ : View.Piece (Elt F) S2048x128 .bf16) :: L)) y
    = View.read (Elt F) arg6.view (arg6.view.writes (Elt F) f L) y := by
  refine View.read_writes_cons_unit_of_not_mem (s := S2048x128) arg6.view f inb w L y heq 0 ?_
  show (y 0).val < 256 * g ∨ 256 * g + 256 ≤ (y 0).val
  omega
set_option maxHeartbeats 1000000

theorem step7 (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S8x128x256 .bf16) (harg4 : arg4.IsWhole) (arg5 : Memref sig .tc .vmem S2x3x768x256 .f32) (harg5 : arg5.IsWhole) (arg6 : Memref sig .tc .vmem S2048x128 .bf16) (harg6 : arg6.IsWhole) (arg7 : Memref sig .tc .vmem S2x768x256 .f32) (harg7 : arg7.IsWhole) (arg8 : Memref sig .tc .vmem S2x768x256 .f32) (harg8 : arg8.IsWhole) (arg9 : Memref sig .tc .vmem S16x1x256 .f32) (harg9 : arg9.IsWhole) (v5 : BitVec 32) (v9 : FVec F S256x128 .bf16) (v16 : FVec F S768x128 .bf16) (v17 : FVec F S256x128 .bf16) (v30 : FVec F S1x256 .f32) (f6 : BufTy.Contents (Elt F) arg6.view.ty) (f7 : BufTy.Contents (Elt F) arg7.view.ty) (f8 : BufTy.Contents (Elt F) arg8.view.ty) (f9 : BufTy.Contents (Elt F) arg9.view.ty) :
    I7 x0 x1 x3 arg7 (k.val + 1) (arg7.view.writes (Elt F) f7 (tripL_k0_t1 (F := F) Variants.none c none i arg2 harg2 arg3 harg3 arg4 harg4 arg5 harg5 arg6 harg6 arg7 harg7 arg8 harg8 arg9 harg9 k0_pay28 k0_pay29 v5 v9 v16 v17 v30 (harg2.unread x0) (harg3.unread x1) (harg4.unread x2) (harg5.unread x3) k f6 f7 f8 f9).2.1) := by
  unfold tripL_k0_t1 trip_k0_t1
  dsimp only
  sl_unfold_run_names
  refine ⟨?_, ?_⟩
  · rw [readAt_miss (a := 0) (ha := .inl (by decide)), readAt_hit (heq := rfl), qB_eq _ _ _ _ (off4_2' k), kB_eq _ _ _ _ (off5_2' k), bB_eq _ _ _ _ _ (off6_2' k)]
    rfl
  · rw [readAt_hit (heq := rfl), qB_eq _ _ _ _ (off4_2' k), kB_eq _ _ _ _ (off5_2' k), bB_eq _ _ _ _ _ (off7_2' k)]
    rfl

theorem step9 (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S8x128x256 .bf16) (harg4 : arg4.IsWhole) (arg5 : Memref sig .tc .vmem S2x3x768x256 .f32) (harg5 : arg5.IsWhole) (arg6 : Memref sig .tc .vmem S2048x128 .bf16) (harg6 : arg6.IsWhole) (arg7 : Memref sig .tc .vmem S2x768x256 .f32) (harg7 : arg7.IsWhole) (arg8 : Memref sig .tc .vmem S2x768x256 .f32) (harg8 : arg8.IsWhole) (arg9 : Memref sig .tc .vmem S16x1x256 .f32) (harg9 : arg9.IsWhole) (v5 : BitVec 32) (v9 : FVec F S256x128 .bf16) (v16 : FVec F S768x128 .bf16) (v17 : FVec F S256x128 .bf16) (v30 : FVec F S1x256 .f32) (f6 : BufTy.Contents (Elt F) arg6.view.ty) (f7 : BufTy.Contents (Elt F) arg7.view.ty) (f8 : BufTy.Contents (Elt F) arg8.view.ty) (f9 : BufTy.Contents (Elt F) arg9.view.ty) (g9 : BufTy.Contents (Elt F) arg9.view.ty) :
    I9 x0 x1 x3 arg9 (k.val + 1) (arg9.view.writes (Elt F) g9 (tripL_k0_t1 (F := F) Variants.none c none i arg2 harg2 arg3 harg3 arg4 harg4 arg5 harg5 arg6 harg6 arg7 harg7 arg8 harg8 arg9 harg9 k0_pay28 k0_pay29 v5 v9 v16 v17 v30 (harg2.unread x0) (harg3.unread x1) (harg4.unread x2) (harg5.unread x3) k f6 f7 f8 f9).2.2.2) := by
  unfold tripL_k0_t1 trip_k0_t1
  dsimp only
  sl_unfold_run_names
  refine ⟨?_, ?_⟩
  · rw [readAt_miss (a := 0) (ha := .inl (by decide)), readAt_hit (heq := rfl), qB_eq _ _ _ _ (off4_2' k), kB_eq _ _ _ _ (off5_2' k), bB_eq _ _ _ _ _ (off6_2' k)]
    rfl
  · rw [readAt_hit (heq := rfl), qB_eq _ _ _ _ (off4_2' k), kB_eq _ _ _ _ (off5_2' k), bB_eq _ _ _ _ _ (off7_2' k)]
    rfl

theorem step6 (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S8x128x256 .bf16) (harg4 : arg4.IsWhole) (arg5 : Memref sig .tc .vmem S2x3x768x256 .f32) (harg5 : arg5.IsWhole) (arg6 : Memref sig .tc .vmem S2048x128 .bf16) (harg6 : arg6.IsWhole) (arg7 : Memref sig .tc .vmem S2x768x256 .f32) (harg7 : arg7.IsWhole) (arg8 : Memref sig .tc .vmem S2x768x256 .f32) (harg8 : arg8.IsWhole) (arg9 : Memref sig .tc .vmem S16x1x256 .f32) (harg9 : arg9.IsWhole) (v5 : BitVec 32) (v9 : FVec F S256x128 .bf16) (v16 : FVec F S768x128 .bf16) (v17 : FVec F S256x128 .bf16) (v30 : FVec F S1x256 .f32) (f6 : BufTy.Contents (Elt F) arg6.view.ty) (f7 : BufTy.Contents (Elt F) arg7.view.ty) (f8 : BufTy.Contents (Elt F) arg8.view.ty) (f9 : BufTy.Contents (Elt F) arg9.view.ty)
    (h6 : I6 x0 x1 x2 x3 arg6 k.val f6) (h7 : I7 x0 x1 x3 arg7 k.val f7) (h9 : I9 x0 x1 x3 arg9 k.val f9) :
    I6 x0 x1 x2 x3 arg6 (k.val + 1) (arg6.view.writes (Elt F) f6 (tripL_k0_t1 (F := F) Variants.none c none i arg2 harg2 arg3 harg3 arg4 harg4 arg5 harg5 arg6 harg6 arg7 harg7 arg8 harg8 arg9 harg9 k0_pay28 k0_pay29 v5 v9 v16 v17 v30 (harg2.unread x0) (harg3.unread x1) (harg4.unread x2) (harg5.unread x3) k f6 f7 f8 f9).1) := by
  unfold tripL_k0_t1 trip_k0_t1
  dsimp only
  intro y hy
  by_cases hA : (y 0).val / 256 = 2 * k.val + 1
  · refine read_block x0 x1 x2 x3 arg6 _ _ _ _ _ y (off4_1' k) hA ?_
    sl_unfold_run_names
    simp (config := {decide := true}) only [View.readCov, readAt_hit_self, readAt_miss_ex]
    rw [vB_eq _ _ _ _ _ (off10_0 k), vB_eq _ _ _ _ _ (off10_1 k), vB_eq _ _ _ _ _ (off10_2 k), qB_eq _ _ _ _ (off4_1' k), kB_eq _ _ _ _ (off5_1' k), bB_eq _ _ _ _ _ (off6_1' k), bB_eq _ _ _ _ _ (off7_1' k)]
    rfl
  refine (read_other arg6 _ _ _ _ _ y (off4_1' k) hA).trans ?_
  by_cases hB : (y 0).val / 256 = 2 * k.val
  · refine read_block x0 x1 x2 x3 arg6 _ _ _ _ _ y (off9' k) hB ?_
    sl_unfold_run_names
    obtain ⟨h70, h71⟩ := h7
    obtain ⟨h90, h91⟩ := h9
    rw [h70, h71, h90, h91, vB_eq _ _ _ _ _ (off8_0 k), vB_eq _ _ _ _ _ (off8_1 k), vB_eq _ _ _ _ _ (off8_2 k)]
    rfl
  refine (read_other arg6 _ _ _ _ _ y (off9' k) hB).trans ?_
  exact h6 y (by omega)

/-- After `n` trips the output rows, the score buffer and the maxima are those before trip `n`. -/
theorem after_trips (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S8x128x256 .bf16) (harg4 : arg4.IsWhole) (arg5 : Memref sig .tc .vmem S2x3x768x256 .f32) (harg5 : arg5.IsWhole) (arg6 : Memref sig .tc .vmem S2048x128 .bf16) (harg6 : arg6.IsWhole) (arg7 : Memref sig .tc .vmem S2x768x256 .f32) (harg7 : arg7.IsWhole) (arg8 : Memref sig .tc .vmem S2x768x256 .f32) (harg8 : arg8.IsWhole) (arg9 : Memref sig .tc .vmem S16x1x256 .f32) (harg9 : arg9.IsWhole) (v5 : BitVec 32) (v9 : FVec F S256x128 .bf16) (v16 : FVec F S768x128 .bf16) (v17 : FVec F S256x128 .bf16) (v30 : FVec F S1x256 .f32) (G6 : BufTy.Contents (Elt F) arg6.view.ty) (G7 : BufTy.Contents (Elt F) arg7.view.ty) (G8 : BufTy.Contents (Elt F) arg8.view.ty) (G9 : BufTy.Contents (Elt F) arg9.view.ty)
    (h7 : I7 x0 x1 x3 arg7 0 G7) (h9 : I9 x0 x1 x3 arg9 0 G9) (n : ℕ) (hn : n ≤ k0_t1_loop.trips) :
    I6 x0 x1 x2 x3 arg6 n (arg6.view.writes (Elt F) G6 (pb_k0_t1 (F := F) Variants.none c none i arg2 harg2 arg3 harg3 arg4 harg4 arg5 harg5 arg6 harg6 arg7 harg7 arg8 harg8 arg9 harg9 k0_pay28 k0_pay29 v5 v9 v16 v17 v30 (harg2.unread x0) (harg3.unread x1) (harg4.unread x2) (harg5.unread x3) G6 G7 G8 G9 n).1)
    ∧ I7 x0 x1 x3 arg7 n (arg7.view.writes (Elt F) G7 (pb_k0_t1 (F := F) Variants.none c none i arg2 harg2 arg3 harg3 arg4 harg4 arg5 harg5 arg6 harg6 arg7 harg7 arg8 harg8 arg9 harg9 k0_pay28 k0_pay29 v5 v9 v16 v17 v30 (harg2.unread x0) (harg3.unread x1) (harg4.unread x2) (harg5.unread x3) G6 G7 G8 G9 n).2.1)
    ∧ I9 x0 x1 x3 arg9 n (arg9.view.writes (Elt F) G9 (pb_k0_t1 (F := F) Variants.none c none i arg2 harg2 arg3 harg3 arg4 harg4 arg5 harg5 arg6 harg6 arg7 harg7 arg8 harg8 arg9 harg9 k0_pay28 k0_pay29 v5 v9 v16 v17 v30 (harg2.unread x0) (harg3.unread x1) (harg4.unread x2) (harg5.unread x3) G6 G7 G8 G9 n).2.2.2) := by
  induction n with
  | zero => exact ⟨fun y hy => absurd hy (by omega), h7, h9⟩
  | succ n ih =>
    obtain ⟨i6, i7, i9⟩ := ih (by omega)
    have e := pb_k0_t1_succ (F := F) Variants.none c none i arg2 harg2 arg3 harg3 arg4 harg4 arg5 harg5 arg6 harg6 arg7 harg7 arg8 harg8 arg9 harg9 k0_pay28 k0_pay29 v5 v9 v16 v17 v30 (harg2.unread x0) (harg3.unread x1) (harg4.unread x2) (harg5.unread x3) G6 G7 G8 G9 ⟨n, hn⟩
    rw [e]
    dsimp only
    rw [View.writes_append, View.writes_append, View.writes_append]
    exact ⟨step6 x0 x1 x2 x3 ⟨n, hn⟩ c i arg2 harg2 arg3 harg3 arg4 harg4 arg5 harg5 arg6 harg6 arg7 harg7 arg8 harg8 arg9 harg9 v5 v9 v16 v17 v30 _ _ _ _ i6 i7 i9, step7 x0 x1 x2 x3 ⟨n, hn⟩ c i arg2 harg2 arg3 harg3 arg4 harg4 arg5 harg5 arg6 harg6 arg7 harg7 arg8 harg8 arg9 harg9 v5 v9 v16 v17 v30 _ _ _ _, step9 x0 x1 x2 x3 ⟨n, hn⟩ c i arg2 harg2 arg3 harg3 arg4 harg4 arg5 harg5 arg6 harg6 arg7 harg7 arg8 harg8 arg9 harg9 v5 v9 v16 v17 v30 _ _ _ _ _⟩

theorem off1_0 : k0_off1 4294967295#32 = ![256 * chunk 0, 0] := by decide +kernel
theorem off1_7 : k0_off1 6#32 = ![256 * chunk 7, 0] := by decide +kernel
theorem off2_0 : k0_off2 1#1 0#1 = ![0, typ 0, 0, 0] := by decide +kernel
theorem off2_7 : k0_off2 0#1 1#1 = ![0, typ 7, 0, 0] := by decide +kernel
theorem off3_0 : k0_off3 1#1 0#1 = ![1, typ 0, 0, 0] := by decide +kernel
theorem off3_7 : k0_off3 0#1 1#1 = ![1, typ 7, 0, 0] := by decide +kernel
theorem off11_6 : ∀ j : Fin 3, k0_off11 5#32 (BitVec.ofNat 32 j.val) = ![chunk 6 + j.val, 0, 0] := by decide +kernel
theorem off11_7 : ∀ j : Fin 3, k0_off11 6#32 (BitVec.ofNat 32 j.val) = ![chunk 7 + j.val, 0, 0] := by decide +kernel

/-- The loop followed by the stores of the last two blocks leaves the whole output. -/
theorem read_final (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S8x128x256 .bf16) (harg4 : arg4.IsWhole) (arg5 : Memref sig .tc .vmem S2x3x768x256 .f32) (harg5 : arg5.IsWhole) (arg6 : Memref sig .tc .vmem S2048x128 .bf16) (harg6 : arg6.IsWhole) (arg7 : Memref sig .tc .vmem S2x768x256 .f32) (harg7 : arg7.IsWhole) (arg8 : Memref sig .tc .vmem S2x768x256 .f32) (harg8 : arg8.IsWhole) (arg9 : Memref sig .tc .vmem S16x1x256 .f32) (harg9 : arg9.IsWhole) (v5 : BitVec 32) (v9 : FVec F S256x128 .bf16) (v16 : FVec F S768x128 .bf16) (v17 : FVec F S256x128 .bf16) (v30 : FVec F S1x256 .f32) (G6 : BufTy.Contents (Elt F) arg6.view.ty) (G7 : BufTy.Contents (Elt F) arg7.view.ty) (G8 : BufTy.Contents (Elt F) arg8.view.ty) (G9 : BufTy.Contents (Elt F) arg9.view.ty) (h7 : I7 x0 x1 x3 arg7 0 G7) (h9 : I9 x0 x1 x3 arg9 0 G9) (n : ℕ) (hn : n = 3)
    (inb7 : ∀ a, (![1792, 0] : Fin 2 → ℕ) a + S256x128.size a ≤ S2048x128.size a)
    (inb6 : ∀ a, (![1536, 0] : Fin 2 → ℕ) a + S256x128.size a ≤ S2048x128.size a)
    (w7 w6 : Vec F S256x128 .bf16) (hw7 : w7 = OB x0 x1 x2 x3 7) (hw6 : w6 = OB x0 x1 x2 x3 6) :
    View.read (Elt F) arg6.view (arg6.view.writes (Elt F) G6
      ((⟨Rect.unit (s := S2048x128) ![1792, 0] S256x128.size inb7, w7⟩ : View.Piece (Elt F) S2048x128 .bf16)
        :: (⟨Rect.unit (s := S2048x128) ![1536, 0] S256x128.size inb6, w6⟩ : View.Piece (Elt F) S2048x128 .bf16)
        :: (pb_k0_t1 (F := F) Variants.none c none i arg2 harg2 arg3 harg3 arg4 harg4 arg5 harg5 arg6 harg6 arg7 harg7 arg8 harg8 arg9 harg9 k0_pay28 k0_pay29 v5 v9 v16 v17 v30 (harg2.unread x0) (harg3.unread x1) (harg4.unread x2) (harg5.unread x3) G6 G7 G8 G9 n).1)) = naOut x0 x1 x2 x3 := by
  subst hn
  funext y
  by_cases h : (y 0).val / 256 = 7
  · exact read_block x0 x1 x2 x3 arg6 _ _ _ _ _ y rfl h hw7
  refine (read_other arg6 _ _ _ _ _ y rfl h).trans ?_
  by_cases h' : (y 0).val / 256 = 6
  · exact read_block x0 x1 x2 x3 arg6 _ _ _ _ _ y rfl h' hw6
  refine (read_other arg6 _ _ _ _ _ y rfl h').trans ?_
  have hy : (y 0).val < 2048 := (y 0).isLt
  exact (after_trips x0 x1 x2 x3 c i arg2 harg2 arg3 harg3 arg4 harg4 arg5 harg5 arg6 harg6 arg7 harg7 arg8 harg8 arg9 harg9 v5 v9 v16 v17 v30 G6 G7 G8 G9 h7 h9 3 (by decide +kernel)).1 y (by omega)

theorem read7_0 (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S8x128x256 .bf16) (harg4 : arg4.IsWhole) (arg5 : Memref sig .tc .vmem S2x3x768x256 .f32) (harg5 : arg5.IsWhole) (arg6 : Memref sig .tc .vmem S2048x128 .bf16) (harg6 : arg6.IsWhole) (arg7 : Memref sig .tc .vmem S2x768x256 .f32) (harg7 : arg7.IsWhole) (arg8 : Memref sig .tc .vmem S2x768x256 .f32) (harg8 : arg8.IsWhole) (arg9 : Memref sig .tc .vmem S16x1x256 .f32) (harg9 : arg9.IsWhole) (v5 : BitVec 32) (v9 : FVec F S256x128 .bf16) (v16 : FVec F S768x128 .bf16) (v17 : FVec F S256x128 .bf16) (v30 : FVec F S1x256 .f32) (G6 : BufTy.Contents (Elt F) arg6.view.ty) (G7 : BufTy.Contents (Elt F) arg7.view.ty) (G8 : BufTy.Contents (Elt F) arg8.view.ty) (G9 : BufTy.Contents (Elt F) arg9.view.ty) (h7 : I7 x0 x1 x3 arg7 0 G7) (h9 : I9 x0 x1 x3 arg9 0 G9) (n : ℕ) (hn : n = 3) :
    View.readAt (Elt F) arg7.view (Rect.unit (s := S2x768x256) ![0, 0, 0] S1x768x256.size inb_S2x768x256_S1x768x256_0_0_0).toLoadRect
      (arg7.view.writes (Elt F) G7 (pb_k0_t1 (F := F) Variants.none c none i arg2 harg2 arg3 harg3 arg4 harg4 arg5 harg5 arg6 harg6 arg7 harg7 arg8 harg8 arg9 harg9 k0_pay28 k0_pay29 v5 v9 v16 v17 v30 (harg2.unread x0) (harg3.unread x1) (harg4.unread x2) (harg5.unread x3) G6 G7 G8 G9 n).2.1) = P0 x0 x1 x3 6 := by
  subst hn; exact (after_trips x0 x1 x2 x3 c i arg2 harg2 arg3 harg3 arg4 harg4 arg5 harg5 arg6 harg6 arg7 harg7 arg8 harg8 arg9 harg9 v5 v9 v16 v17 v30 G6 G7 G8 G9 h7 h9 3 (by decide +kernel)).2.1.1

theorem read7_1 (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S8x128x256 .bf16) (harg4 : arg4.IsWhole) (arg5 : Memref sig .tc .vmem S2x3x768x256 .f32) (harg5 : arg5.IsWhole) (arg6 : Memref sig .tc .vmem S2048x128 .bf16) (harg6 : arg6.IsWhole) (arg7 : Memref sig .tc .vmem S2x768x256 .f32) (harg7 : arg7.IsWhole) (arg8 : Memref sig .tc .vmem S2x768x256 .f32) (harg8 : arg8.IsWhole) (arg9 : Memref sig .tc .vmem S16x1x256 .f32) (harg9 : arg9.IsWhole) (v5 : BitVec 32) (v9 : FVec F S256x128 .bf16) (v16 : FVec F S768x128 .bf16) (v17 : FVec F S256x128 .bf16) (v30 : FVec F S1x256 .f32) (G6 : BufTy.Contents (Elt F) arg6.view.ty) (G7 : BufTy.Contents (Elt F) arg7.view.ty) (G8 : BufTy.Contents (Elt F) arg8.view.ty) (G9 : BufTy.Contents (Elt F) arg9.view.ty) (h7 : I7 x0 x1 x3 arg7 0 G7) (h9 : I9 x0 x1 x3 arg9 0 G9) (n : ℕ) (hn : n = 3) :
    View.readAt (Elt F) arg7.view (Rect.unit (s := S2x768x256) ![1, 0, 0] S1x768x256.size inb_S2x768x256_S1x768x256_1_0_0).toLoadRect
      (arg7.view.writes (Elt F) G7 (pb_k0_t1 (F := F) Variants.none c none i arg2 harg2 arg3 harg3 arg4 harg4 arg5 harg5 arg6 harg6 arg7 harg7 arg8 harg8 arg9 harg9 k0_pay28 k0_pay29 v5 v9 v16 v17 v30 (harg2.unread x0) (harg3.unread x1) (harg4.unread x2) (harg5.unread x3) G6 G7 G8 G9 n).2.1) = P1 x0 x1 x3 6 := by
  subst hn; exact (after_trips x0 x1 x2 x3 c i arg2 harg2 arg3 harg3 arg4 harg4 arg5 harg5 arg6 harg6 arg7 harg7 arg8 harg8 arg9 harg9 v5 v9 v16 v17 v30 G6 G7 G8 G9 h7 h9 3 (by decide +kernel)).2.1.2

/-- After the three trips the maxima are those of block 6, whatever the buffer held before them. -/
theorem read9 (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S8x128x256 .bf16) (harg4 : arg4.IsWhole) (arg5 : Memref sig .tc .vmem S2x3x768x256 .f32) (harg5 : arg5.IsWhole) (arg6 : Memref sig .tc .vmem S2048x128 .bf16) (harg6 : arg6.IsWhole) (arg7 : Memref sig .tc .vmem S2x768x256 .f32) (harg7 : arg7.IsWhole) (arg8 : Memref sig .tc .vmem S2x768x256 .f32) (harg8 : arg8.IsWhole) (arg9 : Memref sig .tc .vmem S16x1x256 .f32) (harg9 : arg9.IsWhole) (v5 : BitVec 32) (v9 : FVec F S256x128 .bf16) (v16 : FVec F S768x128 .bf16) (v17 : FVec F S256x128 .bf16) (v30 : FVec F S1x256 .f32) (G6 : BufTy.Contents (Elt F) arg6.view.ty) (G7 : BufTy.Contents (Elt F) arg7.view.ty) (G8 : BufTy.Contents (Elt F) arg8.view.ty) (G9 : BufTy.Contents (Elt F) arg9.view.ty) (g9 : BufTy.Contents (Elt F) arg9.view.ty) (n : ℕ) (hn : n = 3) :
    I9 x0 x1 x3 arg9 3 (arg9.view.writes (Elt F) g9 (pb_k0_t1 (F := F) Variants.none c none i arg2 harg2 arg3 harg3 arg4 harg4 arg5 harg5 arg6 harg6 arg7 harg7 arg8 harg8 arg9 harg9 k0_pay28 k0_pay29 v5 v9 v16 v17 v30 (harg2.unread x0) (harg3.unread x1) (harg4.unread x2) (harg5.unread x3) G6 G7 G8 G9 n).2.2.2) := by
  subst hn
  have e := pb_k0_t1_succ (F := F) Variants.none c none i arg2 harg2 arg3 harg3 arg4 harg4 arg5 harg5 arg6 harg6 arg7 harg7 arg8 harg8 arg9 harg9 k0_pay28 k0_pay29 v5 v9 v16 v17 v30 (harg2.unread x0) (harg3.unread x1) (harg4.unread x2) (harg5.unread x3) G6 G7 G8 G9 ⟨2, by decide +kernel⟩
  rw [show (3 : ℕ) = 2 + 1 from rfl, e]
  dsimp only
  rw [View.writes_append]
  exact step9 x0 x1 x2 x3 ⟨2, by decide +kernel⟩ c i arg2 harg2 arg3 harg3 arg4 harg4 arg5 harg5 arg6 harg6 arg7 harg7 arg8 harg8 arg9 harg9 v5 v9 v16 v17 v30 _ _ _ _ _

theorem off11_6_0 : k0_off11 5#32 0#32 = ![chunk 6 + 0, 0, 0] := off11_6 0
theorem off11_6_1 : k0_off11 5#32 1#32 = ![chunk 6 + 1, 0, 0] := off11_6 1
theorem off11_6_2 : k0_off11 5#32 2#32 = ![chunk 6 + 2, 0, 0] := off11_6 2
theorem off11_7_0 : k0_off11 6#32 0#32 = ![chunk 7 + 0, 0, 0] := off11_7 0
theorem off11_7_1 : k0_off11 6#32 1#32 = ![chunk 7 + 1, 0, 0] := off11_7 1
theorem off11_7_2 : k0_off11 6#32 2#32 = ![chunk 7 + 2, 0, 0] := off11_7 2

section Ends

variable {q q' : Vec F S256x128 .bf16} {kk : Vec F S768x128 .bf16} {b0 b1 : Vec F S1x1x768x256 .f32} {a0 a1 a2 : Vec F S1x128x256 .bf16}
  {s0 s1 : Vec F S1x768x256 .f32} {m0 m1 : Vec F S1x1x256 .f32}

/-- The first block's scores as the opening of the body computes them. -/
theorem open7 (arg7 : Memref sig .tc .vmem S2x768x256 .f32) (f : BufTy.Contents (Elt F) arg7.view.ty) (inb1 inb0)
    (hq : q = qB x0 0) (hk : kk = kB x1 0) (h0 : b0 = bB x3 0 0) (h1 : b1 = bB x3 1 0) :
    I7 x0 x1 x3 arg7 0 (arg7.view.writes (Elt F) f
      [⟨Rect.unit (s := S2x768x256) ![1, 0, 0] S1x768x256.size inb1, k0_pay38 k0_pay28 (k0_pay30 q) (k0_pay31 kk) k0_pay32 b1⟩,
       ⟨Rect.unit (s := S2x768x256) ![0, 0, 0] S1x768x256.size inb0, k0_pay34 q kk b0⟩]) := by
  subst hq hk h0 h1
  refine ⟨?_, ?_⟩
  · rw [readAt_miss (a := 0) (ha := .inl (by decide)), readAt_hit (heq := rfl)]
    rfl
  · rw [readAt_hit (heq := rfl)]
    rfl

/-- The first block's maxima as the opening of the body computes them. -/
theorem open9 (arg9 : Memref sig .tc .vmem S16x1x256 .f32) (f : BufTy.Contents (Elt F) arg9.view.ty) (inb1 inb0)
    (hq : q = qB x0 0) (hk : kk = kB x1 0) (h0 : b0 = bB x3 0 0) (h1 : b1 = bB x3 1 0) :
    I9 x0 x1 x3 arg9 0 (arg9.view.writes (Elt F) f
      [⟨Rect.unit (s := S16x1x256) ![1, 0, 0] S1x1x256.size inb1, k0_pay39 k0_pay28 (k0_pay30 q) (k0_pay31 kk) k0_pay32 b1⟩,
       ⟨Rect.unit (s := S16x1x256) ![0, 0, 0] S1x1x256.size inb0, k0_pay36 (k0_pay35 q kk b0)⟩]) := by
  subst hq hk h0 h1
  refine ⟨?_, ?_⟩
  · rw [readAt_miss (a := 0) (ha := .inl (by decide)), readAt_hit (heq := rfl)]
    rfl
  · rw [readAt_hit (heq := rfl)]
    rfl

/-- The last block's output as the close of the body computes it. -/
theorem close7 (hq : q = qB x0 7) (hk : kk = kB x1 7) (h0 : b0 = bB x3 0 7) (h1 : b1 = bB x3 1 7)
    (ha0 : a0 = vB x2 7 0) (ha1 : a1 = vB x2 7 1) (ha2 : a2 = vB x2 7 2) :
    k0_pay1 k0_pay29 (k0_pay54 a0 a1 a2) (k0_pay44 k0_pay28 (k0_pay40 q) kk b0) (k0_pay45 k0_pay28 (k0_pay40 q) kk b0)
      (k0_pay47 (k0_pay46 k0_pay28 (k0_pay40 q) kk b1)) (k0_pay48 (k0_pay46 k0_pay28 (k0_pay40 q) kk b1)) = OB x0 x1 x2 x3 7 := by
  subst hq hk h0 h1 ha0 ha1 ha2; rfl

/-- The last block but one's output as the close of the body computes it. -/
theorem close6 (hs0 : s0 = P0 x0 x1 x3 6) (hs1 : s1 = P1 x0 x1 x3 6) (hm0 : m0 = M0 x0 x1 x3 6) (hm1 : m1 = M1 x0 x1 x3 6)
    (ha0 : a0 = vB x2 6 0) (ha1 : a1 = vB x2 6 1) (ha2 : a2 = vB x2 6 2) :
    k0_pay53 k0_pay29 (k0_pay49 a0 a1 a2) (k0_pay51 k0_pay29 a0 a1 a2 s0 m0) (k0_pay52 k0_pay29 a0 a1 a2 s0 m0) s1 m1 = OB x0 x1 x2 x3 6 := by
  subst hs0 hs1 hm0 hm1 ha0 ha1 ha2; rfl

end Ends

end Cert.KernelIdeal.Na

end
-- ==== Proof.Na.Body.lean ====
module

public import proofs.«01_k».proof.Proof.Na.Spec
public import proofs.«01_k».proof.Proof.Gen.KernelIdeal.Frame
public import Idealize.ShloMosaic.Lib.Pipeline.FrameBody
public import Idealize.ShloMosaic.Lib.Ring
public import Idealize.ShloMosaic.Lib.WholeRead
public import Idealize.ShloMosaic.Lib.WritesUnit
public import Idealize.ShloMosaic.Lib.Tactic
public import Idealize.ShloMosaic.Lib.WordCmp
public import Idealize.ShloMosaic.Lib.Claim

/-! # One run of the neighbourhood attention body

The body reads four input blocks, keeps two buffers of scores and a buffer of their maxima, and stores the output
block in eight pieces. What it stores is stated as functions of what the buffers held before. -/

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Shared

variable {F : FTy → Type} [FloatOps F] [Named F]

local notation "𝕄" => MT nD τ sig Unit (Elt F) ℕ (UR sig nD τ) ℕ

theorem trips3 : Scf.trips (0#32) (Scalar.addi 0#32 3#32) 1#32 = 3 := by decide +kernel

set_option maxHeartbeats 600000 in
/-- One run of the body: the inputs are kept, the output block ends at what the specification says of the inputs. -/
theorem body_run (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S8x128x256 .bf16) (harg4 : arg4.IsWhole) (arg5 : Memref sig .tc .vmem S2x3x768x256 .f32) (harg5 : arg5.IsWhole) (arg6 : Memref sig .tc .vmem S2048x128 .bf16) (harg6 : arg6.IsWhole) (arg7 : Memref sig .tc .vmem S2x768x256 .f32) (harg7 : arg7.IsWhole) (arg8 : Memref sig .tc .vmem S2x768x256 .f32) (harg8 : arg8.IsWhole) (arg9 : Memref sig .tc .vmem S16x1x256 .f32) (harg9 : arg9.IsWhole)
    (x0 : Vec F S2048x128 .bf16) (x1 : Vec F S2048x128 .bf16) (x2 : Vec F S8x128x256 .bf16) (x3 : Vec F S2x3x768x256 .f32)
    (f6 : BufTy.Contents (Elt F) arg6.view.ty) (f7 : BufTy.Contents (Elt F) arg7.view.ty) (f8 : BufTy.Contents (Elt F) arg8.view.ty) (f9 : BufTy.Contents (Elt F) arg9.view.ty) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (naOut x0 x1 x2 x3) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f))) -∗ K ⟨⟩))
      ⊢ wp frame (wpE (defs₀ (F := F)) Variants.none c none) E (cc0_na_attn i arg2 harg2 arg3 harg3 arg4 harg4 arg5 harg5 arg6 harg6 arg7 harg7 arg8 harg8 arg9 harg9) K := by
  simp only [cc0_na_attn_eq_skeleton]; unfold cc0_na_attn_skel
  simp only [k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, H6, H7, H8, H9, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr [H6]
    rotate_left
    · iexact H6
    ipureintro
    refine read_final x0 x1 x2 x3 c i arg2 harg2 arg3 harg3 arg4 harg4 arg5 harg5 arg6 harg6 arg7 harg7 arg8 harg8 arg9 harg9 _ _ _ _ _ _ _ _ _ ?_ ?_ _ (by decide +kernel) _ _ _ _ ?_ ?_
    · sl_unfold_run_names
      exact open7 x0 x1 x3 arg7 _ _ _ (qB_eq x0 harg2 _ 0 (by decide)) (kB_eq x1 harg3 _ 0 (by decide)) (bB_eq x3 harg5 _ 0 0 (by decide)) (bB_eq x3 harg5 _ 1 0 (by decide))
    · sl_unfold_run_names
      exact open9 x0 x1 x3 arg9 _ _ _ (qB_eq x0 harg2 _ 0 (by decide)) (kB_eq x1 harg3 _ 0 (by decide)) (bB_eq x3 harg5 _ 0 0 (by decide)) (bB_eq x3 harg5 _ 1 0 (by decide))
    · sl_unfold_run_names
      simp (config := {decide := true}) only [View.readCov, readAt_hit_self, readAt_miss_ex]
      exact close7 x0 x1 x2 x3 (qB_eq x0 harg2 _ 7 (by decide)) (kB_eq x1 harg3 _ 7 (by decide)) (bB_eq x3 harg5 _ 0 7 (by decide)) (bB_eq x3 harg5 _ 1 7 (by decide)) (vB_eq x2 harg4 _ 7 0 (by decide)) (vB_eq x2 harg4 _ 7 1 (by decide)) (vB_eq x2 harg4 _ 7 2 (by decide))
    · sl_unfold_run_names
      simp (config := {decide := true}) only [View.readCov, readAt_hit_self, readAt_miss_ex]
      simp only [View.writes_append]
      refine close6 x0 x1 x2 x3 ?_ ?_ ?_ ?_ (vB_eq x2 harg4 _ 6 0 (by decide)) (vB_eq x2 harg4 _ 6 1 (by decide)) (vB_eq x2 harg4 _ 6 2 (by decide))
      · refine read7_0 x0 x1 x2 x3 c i arg2 harg2 arg3 harg3 arg4 harg4 arg5 harg5 arg6 harg6 arg7 harg7 arg8 harg8 arg9 harg9 _ _ _ _ _ _ _ _ _ ?_ ?_ _ trips3
        · exact open7 x0 x1 x3 arg7 _ _ _ (qB_eq x0 harg2 _ 0 (by decide)) (kB_eq x1 harg3 _ 0 (by decide)) (bB_eq x3 harg5 _ 0 0 (by decide)) (bB_eq x3 harg5 _ 1 0 (by decide))
        · exact open9 x0 x1 x3 arg9 _ _ _ (qB_eq x0 harg2 _ 0 (by decide)) (kB_eq x1 harg3 _ 0 (by decide)) (bB_eq x3 harg5 _ 0 0 (by decide)) (bB_eq x3 harg5 _ 1 0 (by decide))
      · refine read7_1 x0 x1 x2 x3 c i arg2 harg2 arg3 harg3 arg4 harg4 arg5 harg5 arg6 harg6 arg7 harg7 arg8 harg8 arg9 harg9 _ _ _ _ _ _ _ _ _ ?_ ?_ _ trips3
        · exact open7 x0 x1 x3 arg7 _ _ _ (qB_eq x0 harg2 _ 0 (by decide)) (kB_eq x1 harg3 _ 0 (by decide)) (bB_eq x3 harg5 _ 0 0 (by decide)) (bB_eq x3 harg5 _ 1 0 (by decide))
        · exact open9 x0 x1 x3 arg9 _ _ _ (qB_eq x0 harg2 _ 0 (by decide)) (kB_eq x1 harg3 _ 0 (by decide)) (bB_eq x3 harg5 _ 0 0 (by decide)) (bB_eq x3 harg5 _ 1 0 (by decide))
      · exact (read9 x0 x1 x2 x3 c i arg2 harg2 arg3 harg3 arg4 harg4 arg5 harg5 arg6 harg6 arg7 harg7 arg8 harg8 arg9 harg9 _ _ _ _ _ _ _ _ _ _ _ trips3).1
      · exact (read9 x0 x1 x2 x3 c i arg2 harg2 arg3 harg3 arg4 harg4 arg5 harg5 arg6 harg6 arg7 harg7 arg8 harg8 arg9 harg9 _ _ _ _ _ _ _ _ _ _ _ trips3).2
  isplitl [H7]; · iexists _; iexact H7
  isplitl [H8]; · iexists _; iexact H8
  iexists _; iexact H9

end Cert.KernelIdeal.Na

end
-- ==== Proof.Na.Frame.lean ====
module

public import proofs.«01_k».proof.Proof.Na.Body
public import proofs.«01_k».proof.Proof.Gen.KernelIdeal.Frame
public import Idealize.ShloMosaic.Lib.Pipeline.FrameBody
public import Idealize.ShloMosaic.Lib.Ring
public import Idealize.ShloMosaic.Lib.WholeRead
public import Idealize.ShloMosaic.Lib.WritesUnit
public import Idealize.ShloMosaic.Lib.Tactic
public import Idealize.ShloMosaic.Lib.WordCmp
public import Idealize.ShloMosaic.Lib.Claim

/-! # The run of the neighbourhood attention call

The body's run at a point of the grid gives the run of the whole call: it ends, keeps its arguments, and leaves in
the output array the blocks the specification names. -/

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev stg0 (t : Fin cfg0.N) : Memref sig .tc .vmem S2048x128 .bf16 := win0_0.stage (cfg0.slots t 0)
abbrev stg1 (t : Fin cfg0.N) : Memref sig .tc .vmem S2048x128 .bf16 := win0_1.stage (cfg0.slots t 1)
abbrev stg2 (t : Fin cfg0.N) : Memref sig .tc .vmem S8x128x256 .bf16 := win0_2.stage (cfg0.slots t 2)
abbrev stg3 (t : Fin cfg0.N) : Memref sig .tc .vmem S2x3x768x256 .f32 := win0_3.stage (cfg0.slots t 3)
abbrev stg4 (t : Fin cfg0.N) : Memref sig .tc .vmem S2048x128 .bf16 := win0_4.stage (cfg0.slots t 4)
abbrev scr0 : Memref sig .tc .vmem S2x768x256 .f32 := Memref.whole cc0_scratch0
abbrev scr1 : Memref sig .tc .vmem S2x768x256 .f32 := Memref.whole cc0_scratch1
abbrev scr2 : Memref sig .tc .vmem S16x1x256 .f32 := Memref.whole cc0_scratch2

/-- A memref owned at a value holds some contents, -/
theorem owns_open {c : Dev nD} {sp : Space} {s : Shape} {e : EltTy} {r : Memref sig .tc sp s e} {x : s.Idx → Elt F e} :
    owns (c : Thread nD τ) r fullShare x ⊢ iprop(∃ f, (r.view.loc (c : Thread nD τ) ↦[r.view.set]{fullShare} f) : sProp 𝕄) := by
  unfold owns; iintro ⟨%f, %hf, H⟩; iexists f; iexact H

/-- and a memref holding some contents is owned at their value. -/
theorem owns_close {c : Dev nD} {sp : Space} {s : Shape} {e : EltTy} {r : Memref sig .tc sp s e} {f : BufTy.Contents (Elt F) r.view.ty} :
    (r.view.loc (c : Thread nD τ) ↦[r.view.set]{fullShare} f) ⊢ (owns (c : Thread nD τ) r fullShare (r.view.read (Elt F) f) : sProp 𝕄) := by
  unfold owns; iintro H; iexists f; isplitr
  swap; · iexact H
  ipureintro; rfl

/-- What the body may use between points: the three buffers of its own, and the generator register. -/
theorem scratch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- What the body leaves in the output's buffer at a point. -/
def outAt (c : Dev nD) (t : Fin cfg0.N) : Vec F S2048x128 .bf16 := naOut (iblk m c 0 t) (iblk m c 1 t) (iblk m c 2 t) (iblk m c 3 t)

/-- The inputs keep their blocks, the output's buffer holds what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t))

set_option maxHeartbeats 800000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, scratch_eq]
  unfold outAt
  iintro ⟨⟨⟨⟨%e7, HS0⟩, ⟨%e8, HS1⟩, ⟨%e9, HS2⟩⟩, Hg⟩, Ho, ⟨%d0, H0⟩, ⟨%d1, H1⟩, ⟨%d2, H2⟩, ⟨%d3, H3⟩, ⟨%d4, H4⟩⟩
  ihave H4 := owns_open $$ H4
  ihave HS0 := owns_open $$ HS0
  ihave HS1 := owns_open $$ HS1
  ihave HS2 := owns_open $$ HS2
  icases H4 with ⟨%f6, H4⟩
  icases HS0 with ⟨%f7, HS0⟩
  icases HS1 with ⟨%f8, HS1⟩
  icases HS2 with ⟨%f9, HS2⟩
  iapply (body_run c (grid0.coords t) _ _ _ _ _ _ _ _ _ _ _ _ _ _ _ _ (iblk m c 0 t) (iblk m c 1 t) (iblk m c 2 t) (iblk m c 3 t) f6 f7 f8 f9 Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, ⟨%g7, HS0⟩, ⟨%g8, HS1⟩, ⟨%g9, HS2⟩⟩
  isplitl [HS0 HS1 HS2 Hg]
  · isplitl [HS0 HS1 HS2]
    · isplitl [HS0]; · iexists _; iapply owns_close; iexact HS0
      isplitl [HS1]; · iexists _; iapply owns_close; iexact HS1
      iexists _; iapply owns_close; iexact HS2
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

/-- The pipeline's obligation on its body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the call: every array ends at what its blocks make of it, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run of the call, without the counters. -/
theorem run : θ_run defs (onTc (τ := τ) (main (F := F))) (s₀ m ρ) (Pipeline.FramePost cfgs (dats m) 0 (V m)) :=
  (θ_run defs _ _).mono (fun _ h => h.1) (run_quiet m ρ)

/-- The frame claim: the call ends with its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_quiet m ρ))

end Cert.KernelIdeal.Na

end
-- ==== Proof.Na.Kern.lean ====
module

public import proofs.«01_k».proof.Proof.Na.Frame
public import Idealize.ShloMosaic.Lib.Pointwise
public import Idealize.ShloMosaic.Lib.Pipeline.ValueKit

/-! # One block of queries of the attention call, entry by entry -/

@[expose] public section

set_option maxRecDepth 16384

noncomputable section

namespace Cert.KernelIdeal.Na

open Idealize.ShloMosaic Idealize.ShloMosaic.TcCoe Idealize.ShloMosaic.Tactic
open Idealize.ShloMosaic.Pointwise
open Cert.KernelIdeal.Gen Cert.Shared

/-- The base-two logarithm of `e`. -/
abbrev log2e : EReal := (((Real.log 2)⁻¹ : ℝ) : EReal)

/-- A lane below 64 belongs to the first head. -/
theorem lane : ∀ j : Fin 128, IntOp.cmpi CmpIPredicate.slt (BitVec.ofNat 32 j.val) 64#32 = if j.val < 64 then 1#1 else 0#1 := by decide +kernel

theorem named_log2e : (Named.named (F := Ideal) (φ := .f32) κ "log2e" 0x3FB8AA3B#32 : EReal) = log2e :=
  IdealRules.named_const.ideal_named_scalar κ "log2e" _ _ rfl

theorem halves (f : Fin 128 → EReal) : ∑ j, f j = ∑ j : Fin 64, f ⟨j.val, by omega⟩ + ∑ j : Fin 64, f ⟨64 + j.val, by omega⟩ :=
  Fin.sum_univ_add (a := 64) (b := 64) f

/-- The scores of the first head. -/
theorem pay5_at (q : FVec Ideal S256x128 .bf16) (k : FVec Ideal S768x128 .bf16) (x : FVec Ideal S1x1x768x256 .f32) (a : Fin 768) (i : Fin 256) :
    k0_pay5 (F := Ideal) k0_pay28 q k x (ix2 a i)
      = ((∑ j : Fin 64, k (ix2 a ⟨j.val, by omega⟩) * q (ix2 i ⟨j.val, by omega⟩) + x (ix4 0 0 a i)) * log2e : EReal) := by
  unfold k0_pay5 k0_pay28 k0_pay2 k0_pay3 k0_pay4
  rw [← named_log2e]
  generalize Named.named (F := Ideal) (φ := .f32) κ "log2e" 0x3FB8AA3B#32 = L
  pointwise
  simp only [lane]
  congr 2
  rw [halves]
  refine (congrArg₂ (· + ·) (Finset.sum_congr rfl fun j _ => ?_) (Finset.sum_eq_zero fun j _ => ?_)).trans (add_zero _)
  · simp only [if_pos j.isLt]; rfl
  · simp only [if_neg (show ¬ (64 + j.val < 64) by omega)]; rfl

/-- The scores of the second head. -/
theorem pay9_at (q : FVec Ideal S256x128 .bf16) (k : FVec Ideal S768x128 .bf16) (x : FVec Ideal S1x1x768x256 .f32) (a : Fin 768) (i : Fin 256) :
    k0_pay9 (F := Ideal) k0_pay28 (k0_pay2 q) (k0_pay3 k) k0_pay4 x (ix2 a i)
      = ((∑ j : Fin 64, k (ix2 a ⟨64 + j.val, by omega⟩) * q (ix2 i ⟨64 + j.val, by omega⟩) + x (ix4 0 0 a i)) * log2e : EReal) := by
  unfold k0_pay9 k0_pay28 k0_pay2 k0_pay3 k0_pay4
  rw [← named_log2e]
  generalize Named.named (F := Ideal) (φ := .f32) κ "log2e" 0x3FB8AA3B#32 = L
  pointwise
  simp only [lane]
  congr 2
  rw [halves]
  refine (congrArg₂ (· + ·) (Finset.sum_eq_zero fun j _ => ?_) (Finset.sum_congr rfl fun j _ => ?_)).trans (zero_add _)
  · simp only [if_pos j.isLt]; rfl
  · simp only [if_neg (show ¬ (64 + j.val < 64) by omega)]; rfl

theorem fold_max {ι : Type} (u : Finset ι) (f : ι → EReal) : u.fold (max : EReal → EReal → EReal) (Ideal.ofBits .f32 0xFF800000#32) f = u.sup f := rfl

/-- The largest of a query's scores, as the running maxima keep it. -/
theorem max_at (s : FVec Ideal S768x256 .f32) (i : Fin 256) :
    shapeCast S1x1x256 (shapeCast S1x256 (multiReduction .maximumf [0] S256 s 0xFF800000#32 reduces_S768x256_S256 (.inl rfl) rfl) shapeCasts_S256_S1x256) shapeCasts_S1x256_S1x1x256 (ix3 0 0 i)
      = (Finset.univ.sup fun a : Fin 768 => (s (ix2 a i) : EReal)) := by
  pointwise
  exact fold_max _ _

theorem lay_at (s : FVec Ideal S768x256 .f32) (a : Fin 768) (i : Fin 256) : shapeCast S1x768x256 s shapeCasts_S768x256_S1x768x256 (ix3 0 a i) = s (ix2 a i) := by
  pointwise

/-- The three chunks of values side by side. -/
def vcat (a b : FVec Ideal S128x256 .bf16) (c : FVec Ideal S1x128x256 .bf16) : FVec Ideal S128x768 .bf16 :=
  concatenate S128x768 1 [⟨S128x256, a⟩, ⟨S128x256, b⟩, ⟨S128x256, shapeCast S128x256 c shapeCasts_S1x128x256_S128x256⟩] concatenates_S128x256_S128x256_S128x256_S128x768_d1

/-- The output of one head. -/
def headOut (o : FVec Ideal S16x768 .bf16) (v : FVec Ideal S64x768 .bf16) (p : FVec Ideal S1x768x256 .f32) (m : FVec Ideal S1x1x256 .f32) : FVec Ideal S64x256 .f32 :=
  let u := matmul dot_S80x768_S768x256_S80x256_1_0_0_1_n_n none (concatenate S80x768 0 [⟨S64x768, v⟩, ⟨S16x768, o⟩] concatenates_S64x768_S16x768_S80x768_d0)
    (truncf .bf16 (exp2 (subf (shapeCast S768x256 p shapeCasts_S1x768x256_S768x256) (broadcastTo S768x256 (shapeCast S1x256 m shapeCasts_S1x1x256_S1x256) broadcasts_S1x256_S768x256))) bitsLt_bf16_f32)
    (constant S80x256 .f32 0x00000000#32)
  divf (extractStridedSlice S64x256 ![0, 0] u slices_S80x256_o0_0_S64x256) (broadcastTo S64x256 (extractStridedSlice S1x256 ![64, 0] u slices_S80x256_o64_0_S1x256) broadcasts_S1x256_S64x256)

theorem pay14_eq (o : FVec Ideal S16x768 .bf16) (a b : FVec Ideal S128x256 .bf16) (c : FVec Ideal S1x128x256 .bf16) (p : FVec Ideal S1x768x256 .f32) (m : FVec Ideal S1x1x256 .f32)
    (p' : FVec Ideal S1x768x256 .f32) (m' : FVec Ideal S1x1x256 .f32) :
    k0_pay14 (F := Ideal) o a b c p m p' m'
      = truncf .bf16 (transpose S256x128 [1, 0] (concatenate S128x256 0 [⟨S64x256, headOut o (extractStridedSlice S64x768 ![0, 0] (vcat a b c) slices_S128x768_o0_0_S64x768) p m⟩,
          ⟨S64x256, headOut o (extractStridedSlice S64x768 ![64, 0] (vcat a b c) slices_S128x768_o64_0_S64x768) p' m'⟩] concatenates_S64x256_S64x256_S128x256_d0) transposes_S128x256_p1_0_S256x128) bitsLt_bf16_f32 := rfl

theorem headOut_at (o : FVec Ideal S16x768 .bf16) (v : FVec Ideal S64x768 .bf16) (p : FVec Ideal S1x768x256 .f32) (m : FVec Ideal S1x1x256 .f32) (d : Fin 64) (i : Fin 256) :
    headOut o v p m (ix2 d i) = Ideal.div (∑ a : Fin 768, v (ix2 d a) * Ideal.exp2 (p (ix3 0 a i) - m (ix3 0 0 i)))
      (∑ a : Fin 768, o (ix2 0 a) * Ideal.exp2 (p (ix3 0 a i) - m (ix3 0 0 i))) := by
  unfold headOut
  pointwise
  rfl

/-- An entry of the values side by side: that of its chunk. -/
theorem vcat_at (a b : FVec Ideal S128x256 .bf16) (c : FVec Ideal S1x128x256 .bf16) (w : ℕ → Fin 256 → EReal) (d : Fin 128)
    (ha : ∀ n, a (ix2 d n) = w 0 n) (hb : ∀ n, b (ix2 d n) = w 1 n) (hc : ∀ n, c (ix3 0 d n) = w 2 n) (n : Fin 768) :
    vcat a b c (ix2 d n) = w (n.val / 256) ⟨n.val % 256, by omega⟩ := by
  have e : vcat a b c (ix2 d n) = if h : n.val < 256 then a (ix2 d ⟨n.val, h⟩) else if h : n.val - 256 < 256 then b (ix2 d ⟨n.val - 256, h⟩) else c (ix3 0 d ⟨n.val - 256 - 256, by omega⟩) := by
    unfold vcat
    pointwise
  rw [e]
  split
  · rename_i h
    rw [ha]
    exact congrArg₂ w (by omega) (Fin.ext (by show n.val = n.val % 256; omega))
  · split
    · rename_i h h'
      rw [hb]
      exact congrArg₂ w (by omega) (Fin.ext (by show n.val - 256 = n.val % 256; omega))
    · rename_i h h'
      rw [hc]
      exact congrArg₂ w (by omega) (Fin.ext (by show n.val - 256 - 256 = n.val % 256; omega))

/-- The two heads' outputs one above the other, turned: the first head's columns, and the second's. -/
theorem cat_lo (x y : FVec Ideal S64x256 .f32) (i : Fin 256) (d : Fin 64) :
    truncf (F := Ideal) .bf16 (transpose S256x128 [1, 0] (concatenate S128x256 0 [⟨S64x256, x⟩, ⟨S64x256, y⟩] concatenates_S64x256_S64x256_S128x256_d0) transposes_S128x256_p1_0_S256x128) bitsLt_bf16_f32
      (ix2 i ⟨d.val, by omega⟩) = x (ix2 d i) := by
  pointwise
theorem cat_hi (x y : FVec Ideal S64x256 .f32) (i : Fin 256) (d : Fin 64) :
    truncf (F := Ideal) .bf16 (transpose S256x128 [1, 0] (concatenate S128x256 0 [⟨S64x256, x⟩, ⟨S64x256, y⟩] concatenates_S64x256_S64x256_S128x256_d0) transposes_S128x256_p1_0_S256x128) bitsLt_bf16_f32
      (ix2 i ⟨64 + d.val, by omega⟩) = y (ix2 d i) := by
  pointwise

theorem slice_lo (v : FVec Ideal S128x768 .bf16) (d : Fin 64) (n : Fin 768) :
    extractStridedSlice S64x768 ![0, 0] v slices_S128x768_o0_0_S64x768 (ix2 d n) = v (ix2 ⟨d.val, by omega⟩ n) := by
  pointwise
theorem slice_hi (v : FVec Ideal S128x768 .bf16) (d : Fin 64) (n : Fin 768) :
    extractStridedSlice S64x768 ![64, 0] v slices_S128x768_o64_0_S64x768 (ix2 d n) = v (ix2 ⟨64 + d.val, by omega⟩ n) := by
  pointwise
theorem ones_at (n : Fin 768) : k0_pay29 (F := Ideal) (ix2 0 n) = (Ideal.ofBits .bf16 0x3F80#16 : EReal) := by
  unfold k0_pay29
  pointwise
theorem chunk_at (v : FVec Ideal S1x128x256 .bf16) (d : Fin 128) (n : Fin 256) : k0_pay12 (F := Ideal) v (ix2 d n) = v (ix3 0 d n) := by
  unfold k0_pay12
  pointwise
theorem chunk_at' (v : FVec Ideal S1x128x256 .bf16) (d : Fin 128) (n : Fin 256) : k0_pay13 (F := Ideal) v (ix2 d n) = v (ix3 0 d n) := by
  unfold k0_pay13
  pointwise

variable (x0 x1 : FVec Ideal S2048x128 .bf16) (x2 : FVec Ideal S8x128x256 .bf16) (x3 : FVec Ideal S2x3x768x256 .f32)

theorem chunk_lt (g : Fin 8) : chunk g.val ≤ 5 := Nat.min_le_right _ _
theorem typ_lt (g : ℕ) : typ g < 3 := by unfold typ; split <;> [omega; split <;> omega]

theorem qB_at (g : Fin 8) (i : Fin 256) (j : Fin 128) : qB (F := Ideal) x0 g.val (ix2 i j) = x0 (ix2 ⟨256 * g.val + i.val, by omega⟩ j) := by
  unfold qB win
  refine congrArg x0 (funext fun a => ?_)
  match a with
  | ⟨0, _⟩ => exact Fin.ext (show (256 * g.val + i.val) % 2048 = 256 * g.val + i.val from Nat.mod_eq_of_lt (by omega))
  | ⟨1, _⟩ => exact Fin.ext (show (0 + j.val) % 128 = j.val by omega)
theorem kB_at (g : Fin 8) (a : Fin 768) (j : Fin 128) : kB (F := Ideal) x1 g.val (ix2 a j) = x1 (ix2 ⟨256 * chunk g.val + a.val, by have := chunk_lt g; omega⟩ j) := by
  have := chunk_lt g
  unfold kB win
  refine congrArg x1 (funext fun b => ?_)
  match b with
  | ⟨0, _⟩ => exact Fin.ext (show (256 * chunk g.val + a.val) % 2048 = 256 * chunk g.val + a.val from Nat.mod_eq_of_lt (by omega))
  | ⟨1, _⟩ => exact Fin.ext (show (0 + j.val) % 128 = j.val by omega)
theorem vB_at (g : Fin 8) (c : Fin 3) (d : Fin 128) (n : Fin 256) : vB (F := Ideal) x2 g.val c.val (ix3 0 d n) = x2 (ix3 ⟨chunk g.val + c.val, by have := chunk_lt g; omega⟩ d n) := by
  have := chunk_lt g
  unfold vB win
  refine congrArg x2 (funext fun a => ?_)
  match a with
  | ⟨0, _⟩ => exact Fin.ext (show (chunk g.val + c.val + 0) % 8 = chunk g.val + c.val by omega)
  | ⟨1, _⟩ => exact Fin.ext (show (0 + d.val) % 128 = d.val by omega)
  | ⟨2, _⟩ => exact Fin.ext (show (0 + n.val) % 256 = n.val by omega)
theorem bB_at (g : Fin 8) (h : Fin 2) (a : Fin 768) (i : Fin 256) : bB (F := Ideal) x3 h.val g.val (ix4 0 0 a i) = x3 (ix4 h ⟨typ g.val, typ_lt _⟩ a i) := by
  have := typ_lt g.val
  unfold bB win
  refine congrArg x3 (funext fun b => ?_)
  match b with
  | ⟨0, _⟩ => exact Fin.ext (show (h.val + 0) % 2 = h.val by omega)
  | ⟨1, _⟩ => exact Fin.ext (show (typ g.val + 0) % 3 = typ g.val by omega)
  | ⟨2, _⟩ => exact Fin.ext (show (0 + a.val) % 768 = a.val by omega)
  | ⟨3, _⟩ => exact Fin.ext (show (0 + i.val) % 256 = i.val by omega)

/-- The score of key `a` of its slab for query `i` of block `g`, head `h` of the pair, in base-two logarithms. -/
def kScore (h : Fin 2) (g : Fin 8) (i : Fin 256) (a : Fin 768) : EReal :=
  (∑ j : Fin 64, x1 (ix2 ⟨256 * chunk g.val + a.val, by have := chunk_lt g; omega⟩ ⟨64 * h.val + j.val, by omega⟩) * x0 (ix2 ⟨256 * g.val + i.val, by omega⟩ ⟨64 * h.val + j.val, by omega⟩)
    + x3 (ix4 h ⟨typ g.val, typ_lt _⟩ a i)) * log2e

theorem P0_at (g : Fin 8) (a : Fin 768) (i : Fin 256) : P0 (F := Ideal) x0 x1 x3 g.val (ix3 0 a i) = kScore x0 x1 x3 0 g i a := by
  refine (lay_at (k0_pay5 (F := Ideal) k0_pay28 (qB (F := Ideal) x0 g.val) (kB (F := Ideal) x1 g.val) (bB (F := Ideal) x3 0 g.val)) a i).trans ?_
  rw [pay5_at]
  have e := bB_at x3 g 0 a i
  simp only [qB_at, kB_at]
  refine congrArg (· * log2e) (congrArg₂ (· + ·) (Finset.sum_congr rfl fun j _ => ?_) e)
  simp only [Fin.val_zero, Nat.mul_zero, Nat.zero_add]
theorem P1_at (g : Fin 8) (a : Fin 768) (i : Fin 256) : P1 (F := Ideal) x0 x1 x3 g.val (ix3 0 a i) = kScore x0 x1 x3 1 g i a := by
  refine (lay_at (k0_pay9 (F := Ideal) k0_pay28 (k0_pay2 (qB (F := Ideal) x0 g.val)) (k0_pay3 (kB (F := Ideal) x1 g.val)) k0_pay4 (bB (F := Ideal) x3 1 g.val)) a i).trans ?_
  rw [pay9_at]
  have e := bB_at x3 g 1 a i
  simp only [qB_at, kB_at]
  refine congrArg (· * log2e) (congrArg₂ (· + ·) (Finset.sum_congr rfl fun j _ => ?_) e)
  simp only [Fin.val_one, Nat.mul_one]
theorem M0_at (g : Fin 8) (i : Fin 256) : M0 (F := Ideal) x0 x1 x3 g.val (ix3 0 0 i) = Finset.univ.sup (kScore x0 x1 x3 0 g i) :=
  (max_at (k0_pay5 (F := Ideal) k0_pay28 (qB (F := Ideal) x0 g.val) (kB (F := Ideal) x1 g.val) (bB (F := Ideal) x3 0 g.val)) i).trans
    (Finset.sup_congr rfl fun a _ => (lay_at _ a i).symm.trans (P0_at x0 x1 x3 g a i))
theorem M1_at (g : Fin 8) (i : Fin 256) : M1 (F := Ideal) x0 x1 x3 g.val (ix3 0 0 i) = Finset.univ.sup (kScore x0 x1 x3 1 g i) :=
  (max_at (k0_pay9 (F := Ideal) k0_pay28 (k0_pay2 (qB (F := Ideal) x0 g.val)) (k0_pay3 (kB (F := Ideal) x1 g.val)) k0_pay4 (bB (F := Ideal) x3 1 g.val)) i).trans
    (Finset.sup_congr rfl fun a _ => (lay_at _ a i).symm.trans (P1_at x0 x1 x3 g a i))

/-- The values of block `g`'s slab. -/
def kVal (g : Fin 8) (d : Fin 128) (n : Fin 768) : EReal := x2 (ix3 ⟨chunk g.val + n.val / 256, by have := chunk_lt g; omega⟩ d ⟨n.val % 256, by omega⟩)

theorem vals_at (g : Fin 8) (d : Fin 128) (n : Fin 768) :
    vcat (k0_pay12 (F := Ideal) (vB (F := Ideal) x2 g.val 0)) (k0_pay13 (F := Ideal) (vB (F := Ideal) x2 g.val 1)) (vB (F := Ideal) x2 g.val 2) (ix2 d n) = kVal x2 g d n := by
  have hg := chunk_lt g
  refine (vcat_at _ _ _ (fun c n => x2 (ix3 ⟨(chunk g.val + c) % 8, Nat.mod_lt _ (by decide)⟩ d n)) d (fun n => ?_) (fun n => ?_) (fun n => ?_) n).trans ?_
  · refine (chunk_at _ d n).trans ((vB_at x2 g 0 d n).trans ?_)
    exact congrArg (fun u => x2 (ix3 u d n)) (Fin.ext (Nat.mod_eq_of_lt (by show chunk g.val + 0 < 8; omega)).symm)
  · refine (chunk_at' _ d n).trans ((vB_at x2 g 1 d n).trans ?_)
    exact congrArg (fun u => x2 (ix3 u d n)) (Fin.ext (Nat.mod_eq_of_lt (by show chunk g.val + 1 < 8; omega)).symm)
  · refine (vB_at x2 g 2 d n).trans ?_
    exact congrArg (fun u => x2 (ix3 u d n)) (Fin.ext (Nat.mod_eq_of_lt (by show chunk g.val + 2 < 8; omega)).symm)
  · exact congrArg (fun u => x2 (ix3 u d _)) (Fin.ext (Nat.mod_eq_of_lt (by omega)))

/-- One head's output for one query: the exponentials' mix of the values over their sum. -/
def kOut (h : Fin 2) (g : Fin 8) (i : Fin 256) (d : Fin 64) : EReal :=
  Ideal.div (∑ a : Fin 768, kVal x2 g ⟨64 * h.val + d.val, by omega⟩ a * Ideal.exp2 (kScore x0 x1 x3 h g i a - Finset.univ.sup (kScore x0 x1 x3 h g i)))
    (∑ a : Fin 768, Ideal.ofBits .bf16 0x3F80#16 * Ideal.exp2 (kScore x0 x1 x3 h g i a - Finset.univ.sup (kScore x0 x1 x3 h g i)))

theorem OB_lo (g : Fin 8) (i : Fin 256) (d : Fin 64) : OB (F := Ideal) x0 x1 x2 x3 g.val (ix2 i ⟨d.val, by omega⟩) = kOut x0 x1 x2 x3 0 g i d := by
  unfold OB
  rw [pay14_eq, cat_lo, headOut_at]
  simp only [slice_lo, vals_at, ones_at, P0_at, M0_at]
  unfold kOut
  simp only [Fin.val_zero, Nat.mul_zero, Nat.zero_add]
theorem OB_hi (g : Fin 8) (i : Fin 256) (d : Fin 64) : OB (F := Ideal) x0 x1 x2 x3 g.val (ix2 i ⟨64 + d.val, by omega⟩) = kOut x0 x1 x2 x3 1 g i d := by
  unfold OB
  rw [pay14_eq, cat_hi, headOut_at]
  simp only [slice_hi, vals_at, ones_at, P1_at, M1_at]
  unfold kOut
  simp only [Fin.val_one, Nat.mul_one]

/-- The block of outputs at an entry. -/
theorem naOut_at (g : Fin 8) (i : Fin 256) (h : Fin 2) (d : Fin 64) :
    naOut (F := Ideal) x0 x1 x2 x3 (ix2 ⟨256 * g.val + i.val, by omega⟩ ⟨64 * h.val + d.val, by omega⟩) = kOut x0 x1 x2 x3 h g i d := by
  have e : naOut (F := Ideal) x0 x1 x2 x3 (ix2 ⟨256 * g.val + i.val, by omega⟩ ⟨64 * h.val + d.val, by omega⟩) = OB (F := Ideal) x0 x1 x2 x3 g.val (ix2 i ⟨64 * h.val + d.val, by omega⟩) := by
    unfold naOut
    have e1 : (256 * g.val + i.val) / 256 = g.val := by omega
    refine congrArg₂ (OB (F := Ideal) x0 x1 x2 x3) e1 (funext fun a => ?_)
    match a with
    | ⟨0, _⟩ => exact Fin.ext (show (256 * g.val + i.val) % 256 = i.val by omega)
    | ⟨1, _⟩ => exact Fin.ext (show (64 * h.val + d.val) % 128 = 64 * h.val + d.val by omega)
  rw [e]
  match h with
  | 0 =>
    refine Eq.trans ?_ (OB_lo x0 x1 x2 x3 g i d)
    exact congrArg (fun u => OB (F := Ideal) x0 x1 x2 x3 g.val (ix2 i u)) (Fin.ext (show 64 * 0 + d.val = d.val by omega))
  | 1 => exact OB_hi x0 x1 x2 x3 g i d

end Cert.KernelIdeal.Na
-- ==== Proof.Na.Softmax.lean ====
module

public import proofs.«01_k».proof.Proof.Na.Kern
public import Idealize.ShloMosaic.Lib.ReduceAll

/-! # A softmax in base two over a slab, and one in base e over the keys it holds -/

@[expose] public section

noncomputable section

namespace Cert.KernelIdeal.Na

open Idealize.ShloMosaic

/-- The value is a real number. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩
theorem IsReal.add {x y : EReal} : IsReal x → IsReal y → IsReal (x + y)
  | ⟨a, ha⟩, ⟨b, hb⟩ => ⟨a + b, by rw [ha, hb, EReal.coe_add]⟩
theorem IsReal.sum {ι : Type} (u : Finset ι) (f : ι → EReal) (h : ∀ i, IsReal (f i)) : IsReal (∑ i ∈ u, f i) := by
  classical
  induction u using Finset.induction_on with
  | empty => exact ⟨0, by simp⟩
  | insert a u ha ih => rw [Finset.sum_insert ha]; exact (h a).add ih

/-- A real coefficient that is not negative goes into a sum. -/
theorem sum_mul_coe {ι : Type} (u : Finset ι) (f : ι → EReal) (z : ℝ) (hz : 0 ≤ z) : (∑ i ∈ u, f i) * (z : EReal) = ∑ i ∈ u, f i * (z : EReal) := by
  classical
  induction u using Finset.induction_on with
  | empty => simp
  | insert a u ha ih =>
    rw [Finset.sum_insert ha, Finset.sum_insert ha, EReal.right_distrib_of_nonneg_of_ne_top (EReal.coe_nonneg.mpr hz) (EReal.coe_ne_top z), ih]

theorem sum_coe {ι : Type} (u : Finset ι) (f : ι → ℝ) : (∑ i ∈ u, (f i : EReal)) = ((∑ i ∈ u, f i : ℝ) : EReal) := by
  classical
  induction u using Finset.induction_on with
  | empty => simp
  | insert a u ha ih => rw [Finset.sum_insert ha, Finset.sum_insert ha, ih, EReal.coe_add]

theorem log_two_pos : (0 : ℝ) < (Real.log 2)⁻¹ := inv_pos.mpr (Real.log_pos (by norm_num))

theorem rpow_two (x : ℝ) : Real.rpow 2 (x * (Real.log 2)⁻¹) = Real.exp x := by
  have h : Real.log 2 ≠ 0 := (Real.log_pos (by norm_num)).ne'
  show (2 : ℝ) ^ (x * (Real.log 2)⁻¹) = _
  rw [Real.rpow_def_of_pos (by norm_num)]
  congr 1
  field_simp

theorem one_bf16 : (Ideal.ofBits .bf16 0x3F80#16 : EReal) = 1 := by
  simp [Ideal.ofBits, Ideal.ieee]
  rw [← EReal.coe_mul]
  norm_num
theorem eighth_real : IsReal (Ideal.ofBits .f32 0x3E000000#32 : EReal) := by
  simp [Ideal.ofBits, Ideal.ieee]
  exact ⟨_, (EReal.coe_mul _ _).symm⟩

/-- Over a slab whose other scores are minus infinity, the exponentials' mix of the values over their sum is the softmax's
    mix over the slab's keys. -/
theorem softmax (T : Fin 128 → EReal) (S V : Fin 768 → EReal) (f : Fin 128 → Fin 768) (hf : Function.Injective f) (hT : ∀ n, IsReal (T n))
    (hS : ∀ n, S (f n) = T n * log2e) (hn : ∀ a, a ∉ Set.range f → S a = ⊥) :
    Ideal.div (∑ a, V a * Ideal.exp2 (S a - Finset.univ.sup S)) (∑ a, Ideal.ofBits .bf16 0x3F80#16 * Ideal.exp2 (S a - Finset.univ.sup S))
      = ∑ n, Ideal.div (Ideal.exp (T n - Finset.univ.sup T)) (∑ n', Ideal.exp (T n' - Finset.univ.sup T)) * V (f n) := by
  choose s hs using hT
  obtain ⟨n0, -, h0⟩ := Finset.exists_max_image Finset.univ s ⟨0, Finset.mem_univ _⟩
  have hT' : Finset.univ.sup T = (s n0 : EReal) := by
    refine le_antisymm (Finset.sup_le fun n _ => ?_) ((hs n0).symm.le.trans (Finset.le_sup (Finset.mem_univ n0)))
    rw [hs n]; exact EReal.coe_le_coe_iff.mpr (h0 n (Finset.mem_univ _))
  have hS1 : ∀ n, S (f n) = ((s n * (Real.log 2)⁻¹ : ℝ) : EReal) := fun n => by
    rw [hS, hs, EReal.coe_mul, log2e]
  have hS' : Finset.univ.sup S = ((s n0 * (Real.log 2)⁻¹ : ℝ) : EReal) := by
    refine le_antisymm (Finset.sup_le fun a _ => ?_) ((hS1 n0).symm.le.trans (Finset.le_sup (Finset.mem_univ (f n0))))
    by_cases h : a ∈ Set.range f
    · obtain ⟨n, rfl⟩ := h
      rw [hS1]
      exact EReal.coe_le_coe_iff.mpr (mul_le_mul_of_nonneg_right (h0 n (Finset.mem_univ _)) log_two_pos.le)
    · rw [hn a h]; exact bot_le
  have e2 : ∀ n, Ideal.exp2 (S (f n) - Finset.univ.sup S) = (Real.exp (s n - s n0) : EReal) := fun n => by
    rw [hS1, hS', ← EReal.coe_sub, Ideal.exp2_coe, ← sub_mul, rpow_two]
  have e2' : ∀ a, a ∉ Set.range f → Ideal.exp2 (S a - Finset.univ.sup S) = 0 := fun a h => by
    rw [hn a h, hS', EReal.bot_sub]; rfl
  have e1 : ∀ n, Ideal.exp (T n - Finset.univ.sup T) = (Real.exp (s n - s n0) : EReal) := fun n => by
    rw [hs, hT', ← EReal.coe_sub, Ideal.exp_coe]
  have num : ∑ n, V (f n) * (Real.exp (s n - s n0) : EReal) = ∑ a, V a * Ideal.exp2 (S a - Finset.univ.sup S) :=
    Fintype.sum_of_injective f hf _ _ (fun a h => by rw [e2' a h, mul_zero]) (fun n => by rw [e2])
  have den : ∑ n, (Real.exp (s n - s n0) : EReal) = ∑ a, Ideal.ofBits .bf16 0x3F80#16 * Ideal.exp2 (S a - Finset.univ.sup S) :=
    Fintype.sum_of_injective f hf _ _ (fun a h => by rw [e2' a h, mul_zero]) (fun n => by rw [e2, one_bf16, one_mul])
  rw [← num, ← den]
  simp only [e1]
  rw [sum_coe]
  have hz : 0 < ∑ n, Real.exp (s n - s n0) := Finset.sum_pos (fun n _ => Real.exp_pos _) ⟨n0, Finset.mem_univ _⟩
  generalize ∑ n, Real.exp (s n - s n0) = Z at hz
  have hd : ∀ x : EReal, Ideal.div x (Z : EReal) = x * ((Z⁻¹ : ℝ) : EReal) := fun x => by
    unfold Ideal.div
    rw [if_neg (by exact_mod_cast hz.ne'), EReal.coe_inv]
  simp only [hd]
  rw [sum_mul_coe _ _ _ (inv_pos.mpr hz).le]
  refine Finset.sum_congr rfl fun n _ => ?_
  rw [mul_assoc, mul_comm]

/-- An entry of an array that passes the test of being finite is a real number. -/
theorem real_of_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  have hlt : max x (-x) < ⊤ := by
    by_contra hc
    simp [hc] at h
  rw [max_lt_iff] at hlt
  refine ⟨x.toReal, (EReal.coe_toReal hlt.1.ne fun hb => ?_).symm⟩
  rw [hb] at hlt
  simp at hlt

end Cert.KernelIdeal.Na

end
-- ==== Proof.Na.Table.lean ====
module

public import proofs.«01_k».proof.Proof.Na.Frame
public import Idealize.ShloMosaic.Lib.Pointwise
public import Idealize.ShloMosaic.Lib.Pipeline.ValueKit

/-! # The table of relative biases the host makes for the attention call -/

@[expose] public section

set_option maxRecDepth 16384

noncomputable section

namespace Cert.KernelIdeal.Na

open Idealize.ShloMosaic Idealize.ShloMosaic.TcCoe Idealize.ShloMosaic.Tactic
open Idealize.ShloMosaic.Pointwise
open Cert.KernelIdeal.Gen Cert.Shared

/-- The gather of biases at an entry of the table: the row and the column its two index words name, held inside. -/
theorem gather_bias {α : Type} (x : S16x15x31.Idx → α) (i : IVec S3x768x256x2 32) (h : Fin 16) (t : Fin 3) (a : Fin 768) (q : Fin 256) :
    Host.gather gather_S16x15x31_S3x768x256x2_S16x3x768x256_0_12_n_n_12_3_1611 x i (ix4 h t a q)
      = x (ix3 h ⟨min (i (ix4 t a q 0)).toInt.toNat 14, by omega⟩ ⟨min (i (ix4 t a q 1)).toInt.toNat 30, by omega⟩) := by
  have e : ∀ c, GatherDims.siIdx gather_S16x15x31_S3x768x256x2_S16x3x768x256_0_12_n_n_12_3_1611 (ix4 h t a q) c = ix4 t a q c := by
    intro c
    funext b
    match b with
    | ⟨0, _⟩ => rfl
    | ⟨1, _⟩ => rfl
    | ⟨2, _⟩ => rfl
    | ⟨3, _⟩ => rfl
  unfold Host.gather
  congr 1
  funext b
  match b with
  | ⟨0, _⟩ => exact Fin.ext (show 0 + 0 + h.val = h.val by omega)
  | ⟨1, _⟩ =>
    refine Fin.ext ?_
    show min (i (GatherDims.siIdx _ (ix4 h t a q) ⟨0, _⟩)).toInt.toNat 14 = _
    rw [e]; rfl
  | ⟨2, _⟩ =>
    refine Fin.ext ?_
    show min (i (GatherDims.siIdx _ (ix4 h t a q) ⟨1, _⟩)).toInt.toNat 30 = _
    rw [e]; rfl

/-- A whole array of one word. -/
abbrev cw (w : BitVec 32) : IVec S3x768x256 32 := broadcastInDim S3x768x256 ![] bcast_S_S3x768x256 (constantI S_ 32 w)

/-- The row and the column of a key in its slab, the row and the column of a query in its block, and the kind of block. -/
def tKind : IVec S3x768x256 32 := iotaInDim S3x768x256 32 0
def tKeyRow : IVec S3x768x256 32 := Host.shrsi (iotaInDim S3x768x256 32 1) (cw 6#32)
def tKeyCol : IVec S3x768x256 32 := andi (iotaInDim S3x768x256 32 1) (cw 63#32)
def tRow : IVec S3x768x256 32 := Host.shrsi (iotaInDim S3x768x256 32 2) (cw 6#32)
def tCol : IVec S3x768x256 32 := andi (iotaInDim S3x768x256 32 2) (cw 63#32)
/-- How far the key's row lies from the query's. -/
def tDelta : IVec S3x768x256 32 := subi (subi tKeyRow tRow) (muli tKind (cw 4#32))
/-- Whether the key's row is one the query looks at. -/
def tRowOk : IVec S3x768x256 1 :=
  select (cmpi .eq tKind (cw 0#32)) (cmpi .slt tKeyRow (cw 8#32))
    (select (cmpi .eq tKind (cw 1#32)) (andi (cmpi .sge tDelta (cw 4294967292#32)) (cmpi .slt tDelta (cw 4#32))) (cmpi .sge tKeyRow (cw 4#32)))
/-- The first column the query looks at. -/
def tStart : IVec S3x768x256 32 := minsi (cw 48#32) (maxsi (cw 0#32) (subi tCol (cw 8#32)))
def tOk : IVec S3x768x256 1 := andi (andi tRowOk (cmpi .sge tKeyCol tStart)) (cmpi .slt tKeyCol (addi tStart (cw 16#32)))
def tI : IVec S3x768x256 32 := select tOk (subi (addi tDelta (cw 8#32)) (cw 1#32)) (cw 0#32)
def tJ : IVec S3x768x256 32 := select tOk (subi (addi (subi tKeyCol tCol) (cw 16#32)) (cw 1#32)) (cw 0#32)
def tI' : IVec S3x768x256 32 := select (cmpi .slt tI (cw 0#32)) (addi tI (cw 15#32)) tI
def tJ' : IVec S3x768x256 32 := select (cmpi .slt tJ (cw 0#32)) (addi tJ (cw 31#32)) tJ
/-- The two index words of an entry. -/
def tIdx : IVec S3x768x256x2 32 :=
  concatenate S3x768x256x2 3 [⟨S3x768x256x1, broadcastInDim S3x768x256x1 ![0, 1, 2] bcast_S3x768x256_S3x768x256x1_0_1_2 tI'⟩,
    ⟨S3x768x256x1, broadcastInDim S3x768x256x1 ![0, 1, 2] bcast_S3x768x256_S3x768x256x1_0_1_2 tJ'⟩] concatenates_S3x768x256x1_S3x768x256x1_S3x768x256x2_d3
/-- The table: the bias where the query looks at the key, minus infinity elsewhere. -/
def table (x : FVec Ideal S16x15x31 .f32) : FVec Ideal S16x3x768x256 .f32 :=
  select (broadcastInDim S16x3x768x256 ![0, 1, 2, 3] bcast_S1x3x768x256_S16x3x768x256_0_1_2_3 (broadcastInDim S1x3x768x256 ![1, 2, 3] bcast_S3x768x256_S1x3x768x256_1_2_3 tOk))
    (Host.gather gather_S16x15x31_S3x768x256x2_S16x3x768x256_0_12_n_n_12_3_1611 x tIdx)
    (broadcastInDim S16x3x768x256 ![] bcast_S_S16x3x768x256 (constant S_ .f32 0xFF800000#32))

variable (m : (ℓ : Loc nD τ sig) → Buf (Elt Ideal) ℓ)

set_option maxHeartbeats 2000000 in
theorem V_table (c : Dev nD) : (V m c main_v72 : FVec Ideal S16x3x768x256 .f32) = table (m ((c : Thread nD τ).loc main_arg3)) := by
  simp only [V, List.flatten_cons, List.flatten_nil, hostOps0, hostOps0_1, hostOps0_2, hostOps0_3, hostOps0_4, hostOps0_5, hostOps0_6, hostOps0_7, hostOps0_8, hostOps0_9, hostOps0_10, List.cons_append, List.nil_append, List.append_nil]
  entry_read
  rfl

/-- An entry of the table. -/
theorem table_at (x : FVec Ideal S16x15x31 .f32) (h : Fin 16) (t : Fin 3) (a : Fin 768) (q : Fin 256) :
    table x (ix4 h t a q) = if tOk (ix3 t a q) = 1#1 then
      x (ix3 h ⟨min (tI' (ix3 t a q)).toInt.toNat 14, by omega⟩ ⟨min (tJ' (ix3 t a q)).toInt.toNat 30, by omega⟩) else (⊥ : EReal) := by
  have e0 : tIdx (ix4 t a q 0) = tI' (ix3 t a q) := by
    unfold tIdx
    generalize tI' = u
    generalize tJ' = v
    pointwise
  have e1 : tIdx (ix4 t a q 1) = tJ' (ix3 t a q) := by
    unfold tIdx
    generalize tI' = u
    generalize tJ' = v
    pointwise
  unfold table
  generalize tOk = w
  have := gather_bias x tIdx h t a q
  simp only [e0, e1] at this
  rw [← this]
  generalize Host.gather _ _ _ = y
  pointwise
  rfl

/-- The row of a key in its slab by the words, and its column. -/
theorem word_row : ∀ a : Fin 768, IntOp.shrsi .host (BitVec.ofNat 32 a.val) 6#32 = BitVec.ofNat 32 (a.val / 64) := by decide +kernel
theorem word_col : ∀ a : Fin 768, IntOp.andi (BitVec.ofNat 32 a.val) 63#32 = BitVec.ofNat 32 (a.val % 64) := by decide +kernel
theorem word_row' : ∀ a : Fin 256, IntOp.shrsi .host (BitVec.ofNat 32 a.val) 6#32 = BitVec.ofNat 32 (a.val / 64) := by decide +kernel
theorem word_col' : ∀ a : Fin 256, IntOp.andi (BitVec.ofNat 32 a.val) 63#32 = BitVec.ofNat 32 (a.val % 64) := by decide +kernel

/-- The row test over words, for a key in row `kr` of its slab and a query in row `qr` of its block. -/
def wRow (t kr qr : BitVec 32) : BitVec 1 :=
  Scalar.select (IntOp.cmpi CmpIPredicate.eq t 0#32) (IntOp.cmpi CmpIPredicate.slt kr 8#32)
    (Scalar.select (IntOp.cmpi CmpIPredicate.eq t 1#32)
      (IntOp.andi (IntOp.cmpi CmpIPredicate.sge (IntOp.subi (IntOp.subi kr qr) (IntOp.muli t 4#32)) 4294967292#32)
        (IntOp.cmpi CmpIPredicate.slt (IntOp.subi (IntOp.subi kr qr) (IntOp.muli t 4#32)) 4#32))
      (IntOp.cmpi CmpIPredicate.sge kr 4#32))
/-- The first column of a query's window, over words. -/
def wStart (qc : BitVec 32) : BitVec 32 := IntOp.minsi (48#32) (IntOp.maxsi (0#32) (IntOp.subi qc 8#32))
/-- A negative index steps once into the table. -/
def wWrap (n x : BitVec 32) : BitVec 32 := Scalar.select (IntOp.cmpi CmpIPredicate.slt x 0#32) (IntOp.addi x n) x

/-- The row of the key lies among the query's eight. -/
def rowIn (t kr qr : ℕ) : Prop := if t = 0 then kr < 8 else if t = 1 then qr ≤ kr ∧ kr < qr + 8 else 4 ≤ kr
instance (t kr qr : ℕ) : Decidable (rowIn t kr qr) := by unfold rowIn; infer_instance
/-- The column of the key lies among the query's sixteen. -/
def colIn (kc qc : ℕ) : Prop := min (qc - 8) 48 ≤ kc ∧ kc < min (qc - 8) 48 + 16
instance (kc qc : ℕ) : Decidable (colIn kc qc) := by unfold colIn; infer_instance

theorem wRow_eq : ∀ (t : Fin 3) (kr : Fin 12) (qr : Fin 4), wRow (BitVec.ofNat 32 t.val) (BitVec.ofNat 32 kr.val) (BitVec.ofNat 32 qr.val) = 1#1 ↔ rowIn t.val kr.val qr.val := by
  decide +kernel
theorem wCol_eq : ∀ kc qc : Fin 64, IntOp.andi (IntOp.cmpi CmpIPredicate.sge (BitVec.ofNat 32 kc.val) (wStart (BitVec.ofNat 32 qc.val)))
    (IntOp.cmpi CmpIPredicate.slt (BitVec.ofNat 32 kc.val) (IntOp.addi (wStart (BitVec.ofNat 32 qc.val)) 16#32)) = 1#1 ↔ colIn kc.val qc.val := by
  decide +kernel
theorem wI_eq : ∀ (t : Fin 3) (kr : Fin 12) (qr : Fin 4), rowIn t.val kr.val qr.val →
    min (wWrap 15#32 (IntOp.subi (IntOp.addi (IntOp.subi (IntOp.subi (BitVec.ofNat 32 kr.val) (BitVec.ofNat 32 qr.val)) (IntOp.muli (BitVec.ofNat 32 t.val) 4#32)) 8#32) 1#32)).toInt.toNat 14
      = kr.val + 7 - qr.val - 4 * t.val := by
  decide +kernel
theorem wJ_eq : ∀ kc qc : Fin 64, colIn kc.val qc.val →
    min (wWrap 31#32 (IntOp.subi (IntOp.addi (IntOp.subi (BitVec.ofNat 32 kc.val) (BitVec.ofNat 32 qc.val)) 16#32) 1#32)).toInt.toNat 30 = kc.val + 15 - qc.val := by
  decide +kernel

theorem and_one (x y z : BitVec 1) : IntOp.andi (IntOp.andi x y) z = 1#1 ↔ x = 1#1 ∧ IntOp.andi y z = 1#1 := by
  revert x y z; decide

/-- An entry of the mask: the key is one the query looks at. -/
theorem ok_at (t : Fin 3) (a : Fin 768) (q : Fin 256) :
    tOk (ix3 t a q) = 1#1 ↔ rowIn t.val (a.val / 64) (q.val / 64) ∧ colIn (a.val % 64) (q.val % 64) := by
  have : tOk (ix3 t a q) = IntOp.andi (IntOp.andi (wRow (BitVec.ofNat 32 t.val) (BitVec.ofNat 32 (a.val / 64)) (BitVec.ofNat 32 (q.val / 64)))
      (IntOp.cmpi CmpIPredicate.sge (BitVec.ofNat 32 (a.val % 64)) (wStart (BitVec.ofNat 32 (q.val % 64)))))
      (IntOp.cmpi CmpIPredicate.slt (BitVec.ofNat 32 (a.val % 64)) (IntOp.addi (wStart (BitVec.ofNat 32 (q.val % 64))) 16#32)) := by
    unfold tOk tRowOk tDelta tStart tKeyRow tKeyCol tRow tCol tKind
    pointwise
    simp only [word_row, word_col, word_row', word_col']
    rfl
  rw [this, and_one, wRow_eq t ⟨a.val / 64, by omega⟩ ⟨q.val / 64, by omega⟩, wCol_eq ⟨a.val % 64, by omega⟩ ⟨q.val % 64, by omega⟩]

/-- The row of the bias of a key the query looks at. -/
theorem I_at (t : Fin 3) (a : Fin 768) (q : Fin 256) (h : tOk (ix3 t a q) = 1#1) :
    min (tI' (ix3 t a q)).toInt.toNat 14 = a.val / 64 + 7 - q.val / 64 - 4 * t.val := by
  have e : tI' (ix3 t a q) = wWrap 15#32 (IntOp.subi (IntOp.addi (IntOp.subi (IntOp.subi (BitVec.ofNat 32 (a.val / 64)) (BitVec.ofNat 32 (q.val / 64)))
      (IntOp.muli (BitVec.ofNat 32 t.val) 4#32)) 8#32) 1#32) := by
    unfold tI' tI
    generalize tOk = w at h ⊢
    unfold tDelta tKeyRow tRow tKind
    pointwise
    simp only [word_row, word_row', h]
    rfl
  rw [e]
  exact wI_eq t ⟨a.val / 64, by omega⟩ ⟨q.val / 64, by omega⟩ ((ok_at t a q).mp h).1

/-- The column of the bias of a key the query looks at. -/
theorem J_at (t : Fin 3) (a : Fin 768) (q : Fin 256) (h : tOk (ix3 t a q) = 1#1) :
    min (tJ' (ix3 t a q)).toInt.toNat 30 = a.val % 64 + 15 - q.val % 64 := by
  have e : tJ' (ix3 t a q) = wWrap 31#32 (IntOp.subi (IntOp.addi (IntOp.subi (BitVec.ofNat 32 (a.val % 64)) (BitVec.ofNat 32 (q.val % 64))) 16#32) 1#32) := by
    unfold tJ' tJ
    generalize tOk = w at h ⊢
    unfold tKeyCol tCol
    pointwise
    simp only [word_col, word_col', h]
    rfl
  rw [e]
  exact wJ_eq ⟨a.val % 64, by omega⟩ ⟨q.val % 64, by omega⟩ ((ok_at t a q).mp h).2

/-- An entry of the table of a key the query looks at. -/
theorem table_hit (x : FVec Ideal S16x15x31 .f32) (h : Fin 16) (t : Fin 3) (a : Fin 768) (q : Fin 256) (hr : rowIn t.val (a.val / 64) (q.val / 64))
    (hc : colIn (a.val % 64) (q.val % 64)) (i : Fin 15) (j : Fin 31) (hi : i.val = a.val / 64 + 7 - q.val / 64 - 4 * t.val) (hj : j.val = a.val % 64 + 15 - q.val % 64) :
    table x (ix4 h t a q) = x (ix3 h i j) := by
  have ho := (ok_at t a q).mpr ⟨hr, hc⟩
  rw [table_at, if_pos ho]
  exact congrArg₂ (fun i j => x (ix3 h i j)) (Fin.ext ((I_at t a q ho).trans hi.symm)) (Fin.ext ((J_at t a q ho).trans hj.symm))

/-- An entry of the table of a key the query does not look at. -/
theorem table_miss (x : FVec Ideal S16x15x31 .f32) (h : Fin 16) (t : Fin 3) (a : Fin 768) (q : Fin 256)
    (hn : ¬ (rowIn t.val (a.val / 64) (q.val / 64) ∧ colIn (a.val % 64) (q.val % 64))) :
    table x (ix4 h t a q) = (⊥ : EReal) := by
  rw [table_at, if_neg fun ho => hn ((ok_at t a q).mp ho)]

end Cert.KernelIdeal.Na
-- ==== Proof.Na.Ref.lean ====
module

public import proofs.«01_k».proof.Proof.Gen.ReferenceIdeal
public import proofs.«01_k».proof.Proof.Gen.ReferenceIdeal.Run
public import Idealize.ShloMosaic.Lib.Pointwise
public import Idealize.ShloMosaic.Lib.Claim

/-! # The reference of the neighbourhood attention, stage by stage -/

@[expose] public section

set_option maxRecDepth 16384

noncomputable section

namespace Cert.ReferenceIdeal.Na

open Idealize.ShloMosaic Idealize.ShloMosaic.TcCoe
open Idealize.ShloMosaic.Pointwise
open Cert.ReferenceIdeal Cert.ReferenceIdeal.Gen

attribute [local instance] Cert.ReferenceIdeal.Gen.facts

/-- The first row and the first column a query looks at, and the rows and columns of its keys. -/
def rStart : IVec S32 32 := minsi (broadcastInDim S32 ![] bcast_S_S32 (id (constantI S_ 32 24#32)))
  (maxsi (broadcastInDim S32 ![] bcast_S_S32 (id (constantI S_ 32 0#32))) (subi (iotaInDim S32 32 0) (broadcastInDim S32 ![] bcast_S_S32 (constantI S_ 32 4#32))))
def rRow : IVec S32x8 32 := addi (broadcastInDim S32x8 ![0, 1] bcast_S32x1_S32x8_0_1 (broadcastInDim S32x1 ![0] bcast_S32_S32x1_0 rStart))
  (broadcastInDim S32x8 ![0, 1] bcast_S1x8_S32x8_0_1 (broadcastInDim S1x8 ![1] bcast_S8_S1x8_1 (iotaInDim S8 32 0)))
def cStart : IVec S64 32 := minsi (broadcastInDim S64 ![] bcast_S_S64 (id (constantI S_ 32 48#32)))
  (maxsi (broadcastInDim S64 ![] bcast_S_S64 (id (constantI S_ 32 0#32))) (subi (iotaInDim S64 32 0) (broadcastInDim S64 ![] bcast_S_S64 (constantI S_ 32 8#32))))
def cCol : IVec S64x16 32 := addi (broadcastInDim S64x16 ![0, 1] bcast_S64x1_S64x16_0_1 (broadcastInDim S64x1 ![0] bcast_S64_S64x1_0 cStart))
  (broadcastInDim S64x16 ![0, 1] bcast_S1x16_S64x16_0_1 (broadcastInDim S1x16 ![1] bcast_S16_S1x16_1 (iotaInDim S16 32 0)))
/-- The row and the column of the bias. -/
def rBias : IVec S32x8 32 := addi (subi rRow (broadcastInDim S32x8 ![0, 1] bcast_S32x1_S32x8_0_1 (broadcastInDim S32x1 ![0] bcast_S32_S32x1_0 (iotaInDim S32 32 0))))
  (broadcastInDim S32x8 ![] bcast_S_S32x8 (constantI S_ 32 7#32))
def cBias : IVec S64x16 32 := addi (subi cCol (broadcastInDim S64x16 ![0, 1] bcast_S64x1_S64x16_0_1 (broadcastInDim S64x1 ![0] bcast_S64_S64x1_0 (iotaInDim S64 32 0))))
  (broadcastInDim S64x16 ![] bcast_S_S64x16 (constantI S_ 32 15#32))
/-- Row indices, a negative one stepped once into the table, laid out over all queries and keys. -/
def rIdx (x : IVec S32x8 32) (n : BitVec 32) : IVec S32x64x8x16x1 32 :=
  broadcastInDim S32x64x8x16x1 ![0, 1, 2, 3] bcast_S32x64x8x16_S32x64x8x16x1_0_1_2_3 (broadcastInDim S32x64x8x16 ![0, 1, 2, 3] bcast_S32x1x8x1_S32x64x8x16_0_1_2_3
    (select (cmpi .slt (broadcastInDim S32x1x8x1 ![0, 2] bcast_S32x8_S32x1x8x1_0_2 x) (broadcastInDim S32x1x8x1 ![] bcast_S_S32x1x8x1 (constantI S_ 32 0#32)))
      (addi (broadcastInDim S32x1x8x1 ![0, 2] bcast_S32x8_S32x1x8x1_0_2 x) (broadcastInDim S32x1x8x1 ![] bcast_S_S32x1x8x1 (constantI S_ 32 n)))
      (broadcastInDim S32x1x8x1 ![0, 2] bcast_S32x8_S32x1x8x1_0_2 x)))
def cIdx (x : IVec S64x16 32) (n : BitVec 32) : IVec S32x64x8x16x1 32 :=
  broadcastInDim S32x64x8x16x1 ![0, 1, 2, 3] bcast_S32x64x8x16_S32x64x8x16x1_0_1_2_3 (broadcastInDim S32x64x8x16 ![0, 1, 2, 3] bcast_S1x64x1x16_S32x64x8x16_0_1_2_3
    (select (cmpi .slt (broadcastInDim S1x64x1x16 ![1, 3] bcast_S64x16_S1x64x1x16_1_3 x) (broadcastInDim S1x64x1x16 ![] bcast_S_S1x64x1x16 (constantI S_ 32 0#32)))
      (addi (broadcastInDim S1x64x1x16 ![1, 3] bcast_S64x16_S1x64x1x16_1_3 x) (broadcastInDim S1x64x1x16 ![] bcast_S_S1x64x1x16 (constantI S_ 32 n)))
      (broadcastInDim S1x64x1x16 ![1, 3] bcast_S64x16_S1x64x1x16_1_3 x)))
def pairIdx (x y : IVec S32x64x8x16x1 32) : IVec S32x64x8x16x2 32 :=
  concatenate S32x64x8x16x2 4 [⟨S32x64x8x16x1, x⟩, ⟨S32x64x8x16x1, y⟩] concatenates_S32x64x8x16x1_S32x64x8x16x1_S32x64x8x16x2_d4
/-- The keys, or the values, of every query. -/
def gath (i : IVec S32x64x8x16x2 32) (x : FVec Ideal S16384x1024 .f32) : FVec Ideal S8x32x64x128x16x64 .f32 :=
  shapeCast _ (Host.gather gather_S8x32x64x16x64_S32x64x8x16x2_S8x32x64x8x16x16x64_056_12_n_n_12_4_8111664 (shapeCast _ x shapeCasts_S16384x1024_S8x32x64x16x64) i)
    shapeCasts_S8x32x64x8x16x16x64_S8x32x64x128x16x64
/-- The biases of every query. -/
def gbias (i : IVec S32x64x8x16x2 32) (x : FVec Ideal S16x15x31 .f32) : FVec Ideal S32x64x16x128 .f32 :=
  transpose S32x64x16x128 [1, 2, 0, 3] (shapeCast _ (Host.gather gather_S16x15x31_S32x64x8x16x2_S16x32x64x8x16_0_12_n_n_12_4_1611 x i)
    shapeCasts_S16x32x64x8x16_S16x32x64x128) transposes_S16x32x64x128_S32x64x16x128_1_2_0_3
/-- The scores. -/
def score (q : FVec Ideal S16384x1024 .f32) (kg : FVec Ideal S8x32x64x128x16x64 .f32) (bg : FVec Ideal S32x64x16x128 .f32) : FVec Ideal S8x32x64x16x128 .f32 :=
  addf (Host.dotGeneral dot_S8x32x64x16x64_S8x32x64x128x16x64_S8x32x64x16x128_4_5_n_3_0123_0124 none
      (mulf (shapeCast _ q shapeCasts_S16384x1024_S8x32x64x16x64) (broadcastInDim S8x32x64x16x64 ![] bcast_S_S8x32x64x16x64 (constant S_ .f32 0x3E000000#32))) kg)
    (broadcastInDim S8x32x64x16x128 ![0, 1, 2, 3, 4] bcast_S1x32x64x16x128_S8x32x64x16x128_0_1_2_3_4 (broadcastInDim S1x32x64x16x128 ![1, 2, 3, 4] bcast_S32x64x16x128_S1x32x64x16x128_1_2_3_4 bg))
/-- One number per query and head laid along its keys. -/
def along (x : FVec Ideal S8x32x64x16 .f32) : FVec Ideal S8x32x64x16x128 .f32 :=
  broadcastInDim S8x32x64x16x128 ![0, 1, 2, 3, 4] bcast_S8x32x64x16x1_S8x32x64x16x128_0_1_2_3_4 (broadcastInDim S8x32x64x16x1 ![0, 1, 2, 3] bcast_S8x32x64x16_S8x32x64x16x1_0_1_2_3 x)
/-- The largest score. -/
def rmax (s : FVec Ideal S8x32x64x16x128 .f32) : FVec Ideal S8x32x64x16 .f32 :=
  Host.reduce FloatOps.maximumf s (constant S_ .f32 0xFF800000#32) reducesTo_S8x32x64x16x128_S8x32x64x16_d4 h_S_
def smax (s : FVec Ideal S8x32x64x16x128 .f32) : FVec Ideal S8x32x64x16 .f32 :=
  maximumf (broadcastInDim S8x32x64x16 ![] bcast_S_S8x32x64x16 (constant S_ .f32 0xFF800000#32)) (rmax s)
def sexp (s : FVec Ideal S8x32x64x16x128 .f32) : FVec Ideal S8x32x64x16x128 .f32 := Host.exp (subf s (along (smax s)))
def prob (e : FVec Ideal S8x32x64x16x128 .f32) : FVec Ideal S8x32x64x16x128 .f32 :=
  Host.divf e (along (Host.reduceAdd e (constant S_ .f32 0x00000000#32) reducesTo_S8x32x64x16x128_S8x32x64x16_d4 h_S_))
def mix (p : FVec Ideal S8x32x64x16x128 .f32) (vg : FVec Ideal S8x32x64x128x16x64 .f32) : FVec Ideal S16384x1024 .bf16 :=
  truncf .bf16 (shapeCast _ (Host.dotGeneral dot_S8x32x64x16x128_S8x32x64x128x16x64_S8x32x64x16x64_4_3_n_5_0123_0124 none p vg) shapeCasts_S8x32x64x16x64_S16384x1024) bitsLt_bf16_f32
def kvIdx : IVec S32x64x8x16x2 32 := pairIdx (rIdx rRow 32#32) (cIdx cCol 64#32)
def biasIdx : IVec S32x64x8x16x2 32 := pairIdx (rIdx rBias 15#32) (cIdx cBias 31#32)

variable (m : (ℓ : Loc nD τ sig) → Buf (Elt Ideal) ℓ)

/-- The reference's result by its stages. -/
theorem res_eq (c : Dev nD) : (Value.res_main_v108 m c : FVec Ideal S16384x1024 .bf16)
    = mix (prob (sexp (score (m ((c.tc : Thread nD τ).loc main_arg0)) (gath kvIdx (m ((c.tc : Thread nD τ).loc main_arg1))) (gbias biasIdx (m ((c.tc : Thread nD τ).loc main_arg3))))))
        (gath kvIdx (m ((c.tc : Thread nD τ).loc main_arg2))) := by
  unfold Value.res_main_v108
  rfl

/-- The gather of keys or values at an entry. -/
theorem gather_kv {α : Type} (x : S8x32x64x16x64.Idx → α) (i : IVec S32x64x8x16x2 32) (b : Fin 8) (r : Fin 32) (c : Fin 64) (a : Fin 8) (e : Fin 16) (h : Fin 16) (d : Fin 64) :
    Host.gather gather_S8x32x64x16x64_S32x64x8x16x2_S8x32x64x8x16x16x64_056_12_n_n_12_4_8111664 x i (ix7 b r c a e h d)
      = x (ix5 b ⟨min (i (ix5 r c a e 0)).toInt.toNat 31, by omega⟩ ⟨min (i (ix5 r c a e 1)).toInt.toNat 63, by omega⟩ h d) := by
  have e : ∀ k, GatherDims.siIdx gather_S8x32x64x16x64_S32x64x8x16x2_S8x32x64x8x16x16x64_056_12_n_n_12_4_8111664 (ix7 b r c a e h d) k = ix5 r c a e k := by
    intro k
    funext b
    match b with
    | ⟨0, _⟩ => rfl
    | ⟨1, _⟩ => rfl
    | ⟨2, _⟩ => rfl
    | ⟨3, _⟩ => rfl
    | ⟨4, _⟩ => rfl
  unfold Host.gather
  congr 1
  funext u
  match u with
  | ⟨0, _⟩ => exact Fin.ext (show 0 + 0 + b.val = b.val by omega)
  | ⟨1, _⟩ =>
    refine Fin.ext ?_
    show min (i (GatherDims.siIdx _ (ix7 b r c a _ h d) ⟨0, _⟩)).toInt.toNat 31 = _
    rw [e]; rfl
  | ⟨2, _⟩ =>
    refine Fin.ext ?_
    show min (i (GatherDims.siIdx _ (ix7 b r c a _ h d) ⟨1, _⟩)).toInt.toNat 63 = _
    rw [e]; rfl
  | ⟨3, _⟩ => exact Fin.ext (show 0 + 0 + h.val = h.val by omega)
  | ⟨4, _⟩ => exact Fin.ext (show 0 + 0 + d.val = d.val by omega)

/-- The gather of biases at an entry. -/
theorem gather_bias {α : Type} (x : S16x15x31.Idx → α) (i : IVec S32x64x8x16x2 32) (h : Fin 16) (r : Fin 32) (c : Fin 64) (a : Fin 8) (e : Fin 16) :
    Host.gather gather_S16x15x31_S32x64x8x16x2_S16x32x64x8x16_0_12_n_n_12_4_1611 x i (ix5 h r c a e)
      = x (ix3 h ⟨min (i (ix5 r c a e 0)).toInt.toNat 14, by omega⟩ ⟨min (i (ix5 r c a e 1)).toInt.toNat 30, by omega⟩) := by
  have e : ∀ k, GatherDims.siIdx gather_S16x15x31_S32x64x8x16x2_S16x32x64x8x16_0_12_n_n_12_4_1611 (ix5 h r c a e) k = ix5 r c a e k := by
    intro k
    funext b
    match b with
    | ⟨0, _⟩ => rfl
    | ⟨1, _⟩ => rfl
    | ⟨2, _⟩ => rfl
    | ⟨3, _⟩ => rfl
    | ⟨4, _⟩ => rfl
  unfold Host.gather
  congr 1
  funext u
  match u with
  | ⟨0, _⟩ => exact Fin.ext (show 0 + 0 + h.val = h.val by omega)
  | ⟨1, _⟩ =>
    refine Fin.ext ?_
    show min (i (GatherDims.siIdx _ (ix5 h r c a _) ⟨0, _⟩)).toInt.toNat 14 = _
    rw [e]; rfl
  | ⟨2, _⟩ =>
    refine Fin.ext ?_
    show min (i (GatherDims.siIdx _ (ix5 h r c a _) ⟨1, _⟩)).toInt.toNat 30 = _
    rw [e]; rfl

/-- The first row a query in row `r` looks at, and the first column a query in column `c` looks at. -/
abbrev row0 (r : ℕ) : ℕ := min (r - 4) 24
abbrev col0 (c : ℕ) : ℕ := min (c - 8) 48

def wWrap (n x : BitVec 32) : BitVec 32 := Scalar.select (IntOp.cmpi CmpIPredicate.slt x 0#32) (IntOp.addi x n) x
def wRow (r a : BitVec 32) : BitVec 32 := IntOp.addi (IntOp.minsi (24#32) (IntOp.maxsi (0#32) (IntOp.subi r 4#32))) a
def wCol (c e : BitVec 32) : BitVec 32 := IntOp.addi (IntOp.minsi (48#32) (IntOp.maxsi (0#32) (IntOp.subi c 8#32))) e

theorem wRow_kv : ∀ (r : Fin 32) (a : Fin 8), min (wWrap 32#32 (wRow (BitVec.ofNat 32 r.val) (BitVec.ofNat 32 a.val))).toInt.toNat 31 = row0 r.val + a.val := by decide +kernel
theorem wCol_kv : ∀ (c : Fin 64) (e : Fin 16), min (wWrap 64#32 (wCol (BitVec.ofNat 32 c.val) (BitVec.ofNat 32 e.val))).toInt.toNat 63 = col0 c.val + e.val := by decide +kernel
theorem wRow_bias : ∀ (r : Fin 32) (a : Fin 8), min (wWrap 15#32 (IntOp.addi (IntOp.subi (wRow (BitVec.ofNat 32 r.val) (BitVec.ofNat 32 a.val)) (BitVec.ofNat 32 r.val)) 7#32)).toInt.toNat 14
    = row0 r.val + a.val + 7 - r.val := by decide +kernel
theorem wCol_bias : ∀ (c : Fin 64) (e : Fin 16), min (wWrap 31#32 (IntOp.addi (IntOp.subi (wCol (BitVec.ofNat 32 c.val) (BitVec.ofNat 32 e.val)) (BitVec.ofNat 32 c.val)) 15#32)).toInt.toNat 30
    = col0 c.val + e.val + 15 - c.val := by decide +kernel

theorem rRow_at (r : Fin 32) (a : Fin 8) : rRow (ix2 r a) = wRow (BitVec.ofNat 32 r.val) (BitVec.ofNat 32 a.val) := by
  unfold rRow rStart
  pointwise
  rfl
theorem cCol_at (c : Fin 64) (e : Fin 16) : cCol (ix2 c e) = wCol (BitVec.ofNat 32 c.val) (BitVec.ofNat 32 e.val) := by
  unfold cCol cStart
  pointwise
  rfl
theorem rBias_at (r : Fin 32) (a : Fin 8) : rBias (ix2 r a) = IntOp.addi (IntOp.subi (wRow (BitVec.ofNat 32 r.val) (BitVec.ofNat 32 a.val)) (BitVec.ofNat 32 r.val)) 7#32 := by
  have := rRow_at r a
  unfold rBias
  generalize rRow = w at this ⊢
  pointwise
  rw [this]
theorem cBias_at (c : Fin 64) (e : Fin 16) : cBias (ix2 c e) = IntOp.addi (IntOp.subi (wCol (BitVec.ofNat 32 c.val) (BitVec.ofNat 32 e.val)) (BitVec.ofNat 32 c.val)) 15#32 := by
  have := cCol_at c e
  unfold cBias
  generalize cCol = w at this ⊢
  pointwise
  rw [this]
theorem rIdx_at (x : IVec S32x8 32) (n : BitVec 32) (r : Fin 32) (c : Fin 64) (a : Fin 8) (e : Fin 16) : rIdx x n (ix5 r c a e 0) = wWrap n (x (ix2 r a)) := by
  unfold rIdx
  pointwise
  rfl
theorem cIdx_at (x : IVec S64x16 32) (n : BitVec 32) (r : Fin 32) (c : Fin 64) (a : Fin 8) (e : Fin 16) : cIdx x n (ix5 r c a e 0) = wWrap n (x (ix2 c e)) := by
  unfold cIdx
  pointwise
  rfl
theorem pairIdx_0 (x y : IVec S32x64x8x16x1 32) (r : Fin 32) (c : Fin 64) (a : Fin 8) (e : Fin 16) : pairIdx x y (ix5 r c a e 0) = x (ix5 r c a e 0) := by
  unfold pairIdx
  pointwise
theorem pairIdx_1 (x y : IVec S32x64x8x16x1 32) (r : Fin 32) (c : Fin 64) (a : Fin 8) (e : Fin 16) : pairIdx x y (ix5 r c a e 1) = y (ix5 r c a e 0) := by
  unfold pairIdx
  pointwise

theorem kvIdx_0 (r : Fin 32) (c : Fin 64) (a : Fin 8) (e : Fin 16) : min (kvIdx (ix5 r c a e 0)).toInt.toNat 31 = row0 r.val + a.val := by
  rw [kvIdx, pairIdx_0, rIdx_at, rRow_at]; exact wRow_kv r a
theorem kvIdx_1 (r : Fin 32) (c : Fin 64) (a : Fin 8) (e : Fin 16) : min (kvIdx (ix5 r c a e 1)).toInt.toNat 63 = col0 c.val + e.val := by
  rw [kvIdx, pairIdx_1, cIdx_at, cCol_at]; exact wCol_kv c e
theorem biasIdx_0 (r : Fin 32) (c : Fin 64) (a : Fin 8) (e : Fin 16) : min (biasIdx (ix5 r c a e 0)).toInt.toNat 14 = row0 r.val + a.val + 7 - r.val := by
  rw [biasIdx, pairIdx_0, rIdx_at, rBias_at]; exact wRow_bias r a
theorem biasIdx_1 (r : Fin 32) (c : Fin 64) (a : Fin 8) (e : Fin 16) : min (biasIdx (ix5 r c a e 1)).toInt.toNat 30 = col0 c.val + e.val + 15 - c.val := by
  rw [biasIdx, pairIdx_1, cIdx_at, cBias_at]; exact wCol_bias c e

/-- The row of the `n`-th key of a query, in its batch. -/
abbrev keyRow (r : Fin 32) (c : Fin 64) (n : Fin 128) : ℕ := (row0 r.val + n.val / 16) * 64 + (col0 c.val + n.val % 16)

/-- The gathered keys or values at an entry. -/
theorem gath_at (x : FVec Ideal S16384x1024 .f32) (b : Fin 8) (r : Fin 32) (c : Fin 64) (n : Fin 128) (h : Fin 16) (d : Fin 64) :
    gath kvIdx x (ix6 b r c n h d) = x (ix2 ⟨b.val * 2048 + keyRow r c n, by unfold keyRow row0 col0; omega⟩ ⟨h.val * 64 + d.val, by omega⟩) := by
  have e0 := kvIdx_0 r c ⟨n.val / 16, by omega⟩ ⟨n.val % 16, by omega⟩
  have e1 := kvIdx_1 r c ⟨n.val / 16, by omega⟩ ⟨n.val % 16, by omega⟩
  generalize kvIdx = i at e0 e1 ⊢
  unfold gath
  generalize hg : Host.gather _ _ _ = y
  pointwise
  subst hg
  rw [gather_kv]
  pointwise
  refine congrArg (fun a => x (ix2 a _)) (Fin.ext ?_)
  show b.val * 2048 + min (i _).toInt.toNat 31 * 64 + min (i _).toInt.toNat 63 = _
  rw [e0, e1]
  exact Nat.add_assoc _ _ _

/-- The gathered biases at an entry. -/
theorem gbias_at (x : FVec Ideal S16x15x31 .f32) (r : Fin 32) (c : Fin 64) (n : Fin 128) (h : Fin 16) :
    gbias biasIdx x (ix4 r c h n) = x (ix3 h ⟨row0 r.val + n.val / 16 + 7 - r.val, by unfold row0; omega⟩ ⟨col0 c.val + n.val % 16 + 15 - c.val, by unfold col0; omega⟩) := by
  have e0 := biasIdx_0 r c ⟨n.val / 16, by omega⟩ ⟨n.val % 16, by omega⟩
  have e1 := biasIdx_1 r c ⟨n.val / 16, by omega⟩ ⟨n.val % 16, by omega⟩
  generalize biasIdx = i at e0 e1 ⊢
  unfold gbias
  generalize hg : Host.gather _ _ _ = y
  pointwise
  subst hg
  rw [gather_bias]
  exact congrArg₂ (fun i j => x (ix3 h i j)) (Fin.ext e0) (Fin.ext e1)

/-- A score. -/
theorem score_at (q : FVec Ideal S16384x1024 .f32) (kg : FVec Ideal S8x32x64x128x16x64 .f32) (bg : FVec Ideal S32x64x16x128 .f32) (b : Fin 8) (r : Fin 32) (c : Fin 64) (h : Fin 16) (n : Fin 128) :
    score q kg bg (ix5 b r c h n) = (∑ j : Fin 64, q (ix2 ⟨b.val * 2048 + r.val * 64 + c.val, by omega⟩ ⟨h.val * 64 + j.val, by omega⟩) * Ideal.ofBits .f32 0x3E000000#32
      * kg (ix6 b r c n h j) + bg (ix4 r c h n) : EReal) := by
  unfold score
  pointwise

/-- A fold along the last axis of a rank-five array, whatever its extents. -/
theorem reduce_last {α : Type} {n0 n1 n2 n3 n4 : ℕ} {u : Shape} (op : α → α → α) [Std.Commutative op] [Std.Associative op]
    (v : (⟨5, ![n0, n1, n2, n3, n4]⟩ : Shape).Idx → α) (x : u.Idx → α) (red : (⟨5, ![n0, n1, n2, n3, n4]⟩ : Shape).ReducesTo [4] ⟨4, ![n0, n1, n2, n3]⟩)
    (hu : 0 < u.numel) (b : Fin n0) (r : Fin n1) (c : Fin n2) (h : Fin n3) :
    Host.reduce op v x red hu (ix4 b r c h) = Finset.univ.fold op (x (Shape.Idx.first hu)) fun k : Fin n4 => v (ix5 b r c h k) := by
  simp only [pointwise]

theorem rmax_at (s : FVec Ideal S8x32x64x16x128 .f32) (b : Fin 8) (r : Fin 32) (c : Fin 64) (h : Fin 16) :
    rmax s (ix4 b r c h) = Finset.univ.fold (max : EReal → EReal → EReal) (Ideal.ofBits .f32 0xFF800000#32) fun n : Fin 128 => (s (ix5 b r c h n) : EReal) :=
  reduce_last (FloatOps.maximumf (F := Ideal) (φ := .f32)) s (constant S_ .f32 0xFF800000#32) reducesTo_S8x32x64x16x128_S8x32x64x16_d4 h_S_ b r c h

/-- A fold of maxima from minus infinity is a supremum. -/
theorem fold_max {ι : Type} (u : Finset ι) (f : ι → EReal) : u.fold (max : EReal → EReal → EReal) (Ideal.ofBits .f32 0xFF800000#32) f = u.sup f := rfl

theorem max_at (y : FVec Ideal S8x32x64x16 .f32) (b : Fin 8) (r : Fin 32) (c : Fin 64) (h : Fin 16) :
    maximumf (broadcastInDim S8x32x64x16 ![] bcast_S_S8x32x64x16 (constant S_ .f32 0xFF800000#32)) y (ix4 b r c h) = (max (Ideal.ofBits .f32 0xFF800000#32) (y (ix4 b r c h)) : EReal) := by
  pointwise

/-- The largest score of a query and head. -/
theorem smax_at (s : FVec Ideal S8x32x64x16x128 .f32) (b : Fin 8) (r : Fin 32) (c : Fin 64) (h : Fin 16) :
    smax s (ix4 b r c h) = (Finset.univ.sup fun n : Fin 128 => (s (ix5 b r c h n) : EReal)) :=
  (max_at (rmax s) b r c h).trans ((max_eq_right (bot_le (α := EReal))).trans ((rmax_at s b r c h).trans (fold_max Finset.univ _)))

theorem exp_at (s : FVec Ideal S8x32x64x16x128 .f32) (y : FVec Ideal S8x32x64x16 .f32) (b : Fin 8) (r : Fin 32) (c : Fin 64) (h : Fin 16) (n : Fin 128) :
    Host.exp (subf s (along y)) (ix5 b r c h n) = Ideal.exp (s (ix5 b r c h n) - y (ix4 b r c h)) := by
  unfold along
  pointwise

/-- The exponentials. -/
theorem sexp_at (s : FVec Ideal S8x32x64x16x128 .f32) (b : Fin 8) (r : Fin 32) (c : Fin 64) (h : Fin 16) (n : Fin 128) :
    sexp s (ix5 b r c h n) = Ideal.exp (s (ix5 b r c h n) - Finset.univ.sup fun n : Fin 128 => (s (ix5 b r c h n) : EReal)) :=
  (exp_at s (smax s) b r c h n).trans (congrArg (fun z : EReal => Ideal.exp (s (ix5 b r c h n) - z)) (smax_at s b r c h))

/-- The softmax weights. -/
theorem prob_at (s : FVec Ideal S8x32x64x16x128 .f32) (b : Fin 8) (r : Fin 32) (c : Fin 64) (h : Fin 16) (n : Fin 128) :
    prob s (ix5 b r c h n) = Ideal.div (s (ix5 b r c h n)) (∑ k : Fin 128, s (ix5 b r c h k)) := by
  unfold prob along
  pointwise

/-- The mix of the values. -/
theorem mix_at (p : FVec Ideal S8x32x64x16x128 .f32) (vg : FVec Ideal S8x32x64x128x16x64 .f32) (b : Fin 8) (r : Fin 32) (c : Fin 64) (h : Fin 16) (d : Fin 64) :
    mix p vg (ix2 ⟨b.val * 2048 + r.val * 64 + c.val, by omega⟩ ⟨h.val * 64 + d.val, by omega⟩) = (∑ n : Fin 128, p (ix5 b r c h n) * vg (ix6 b r c n h d) : EReal) := by
  unfold mix
  pointwise

/-- The reference's scores of a query and head. -/
def refScore (q k : FVec Ideal S16384x1024 .f32) (rpb : FVec Ideal S16x15x31 .f32) (b : Fin 8) (r : Fin 32) (c : Fin 64) (h : Fin 16) (n : Fin 128) : EReal :=
  ∑ j : Fin 64, q (ix2 ⟨b.val * 2048 + r.val * 64 + c.val, by omega⟩ ⟨h.val * 64 + j.val, by omega⟩) * Ideal.ofBits .f32 0x3E000000#32
      * k (ix2 ⟨b.val * 2048 + keyRow r c n, by unfold keyRow row0 col0; omega⟩ ⟨h.val * 64 + j.val, by omega⟩)
    + rpb (ix3 h ⟨row0 r.val + n.val / 16 + 7 - r.val, by unfold row0; omega⟩ ⟨col0 c.val + n.val % 16 + 15 - c.val, by unfold col0; omega⟩)

/-- The reference's result at an entry. -/
theorem ref_at (q k v : FVec Ideal S16384x1024 .f32) (rpb : FVec Ideal S16x15x31 .f32) (b : Fin 8) (r : Fin 32) (c : Fin 64) (h : Fin 16) (d : Fin 64) :
    mix (prob (sexp (score q (gath kvIdx k) (gbias biasIdx rpb)))) (gath kvIdx v) (ix2 ⟨b.val * 2048 + r.val * 64 + c.val, by omega⟩ ⟨h.val * 64 + d.val, by omega⟩)
      = (∑ n : Fin 128, Ideal.div (Ideal.exp (refScore q k rpb b r c h n - Finset.univ.sup (refScore q k rpb b r c h)))
            (∑ n' : Fin 128, Ideal.exp (refScore q k rpb b r c h n' - Finset.univ.sup (refScore q k rpb b r c h)))
          * v (ix2 ⟨b.val * 2048 + keyRow r c n, by unfold keyRow row0 col0; omega⟩ ⟨h.val * 64 + d.val, by omega⟩) : EReal) := by
  have e : ∀ n, score q (gath kvIdx k) (gbias biasIdx rpb) (ix5 b r c h n) = refScore q k rpb b r c h n := fun n => by
    rw [score_at, gbias_at]
    simp only [gath_at]
    rfl
  rw [mix_at]
  refine Finset.sum_congr rfl fun n _ => ?_
  rw [prob_at, gath_at]
  simp only [sexp_at, e]

end Cert.ReferenceIdeal.Na
-- ==== Proof.Na.Math.lean ====
module

public import proofs.«01_k».proof.Proof.Na.Softmax
public import proofs.«01_k».proof.Proof.Na.Table
public import proofs.«01_k».proof.Proof.Na.Ref

/-! # One entry of the attention call's result is the reference's -/

@[expose] public section

set_option maxRecDepth 16384

noncomputable section

namespace Cert.KernelIdeal.Na

open Idealize.ShloMosaic
open Idealize.ShloMosaic.Pointwise
open Cert.KernelIdeal.Gen
open Cert.ReferenceIdeal.Na (row0 col0 keyRow refScore)

theorem typ_eq (g : Fin 8) : (g.val = 0 ∧ typ g.val = 0 ∧ chunk g.val = 0) ∨ (g.val = 7 ∧ typ g.val = 2 ∧ chunk g.val = 5) ∨ (0 < g.val ∧ g.val < 7 ∧ typ g.val = 1 ∧ chunk g.val = g.val - 1) := by
  revert g
  unfold typ chunk
  decide

theorem slot_lt (g : Fin 8) (i : Fin 256) (n : Fin 128) :
    (row0 (4 * g.val + i.val / 64) + n.val / 16 - 4 * chunk g.val) * 64 + (col0 (i.val % 64) + n.val % 16) < 768 := by
  have := typ_eq g
  unfold row0 col0
  omega

/-- Where the slab of block `g` holds the `n`-th key of query `i`. -/
def slot (g : Fin 8) (i : Fin 256) (n : Fin 128) : Fin 768 :=
  ⟨(row0 (4 * g.val + i.val / 64) + n.val / 16 - 4 * chunk g.val) * 64 + (col0 (i.val % 64) + n.val % 16), slot_lt g i n⟩

theorem slot_row (g : Fin 8) (i : Fin 256) (n : Fin 128) : (slot g i n).val / 64 = row0 (4 * g.val + i.val / 64) + n.val / 16 - 4 * chunk g.val := by
  unfold slot
  have h : col0 (i.val % 64) + n.val % 16 < 64 := by unfold col0; omega
  show (_ * 64 + _) / 64 = _
  omega
theorem slot_col (g : Fin 8) (i : Fin 256) (n : Fin 128) : (slot g i n).val % 64 = col0 (i.val % 64) + n.val % 16 := by
  unfold slot
  have h : col0 (i.val % 64) + n.val % 16 < 64 := by unfold col0; omega
  show (_ * 64 + _) % 64 = _
  omega
theorem chunk_le_row (g : Fin 8) (i : Fin 256) : 4 * chunk g.val ≤ row0 (4 * g.val + i.val / 64) := by
  have := typ_eq g
  unfold row0
  omega

theorem slot_inj (g : Fin 8) (i : Fin 256) : Function.Injective (slot g i) := fun n n' h => by
  have h1 := slot_row g i n
  have h2 := slot_col g i n
  rw [h, slot_row] at h1
  rw [h, slot_col] at h2
  have := chunk_le_row g i
  exact Fin.ext (by omega)

theorem slot_key (g : Fin 8) (i : Fin 256) (n : Fin 128) (r : Fin 32) (hr : r.val = 4 * g.val + i.val / 64) (c : Fin 64) (hc : c.val = i.val % 64) :
    256 * chunk g.val + (slot g i n).val = keyRow r c n := by
  have := chunk_le_row g i
  unfold slot keyRow
  rw [hr, hc]
  show _ + (_ * 64 + _) = _
  omega

theorem slot_in (g : Fin 8) (i : Fin 256) (n : Fin 128) : rowIn (typ g.val) ((slot g i n).val / 64) (i.val / 64) ∧ colIn ((slot g i n).val % 64) (i.val % 64) := by
  rw [slot_row, slot_col]
  constructor
  · have := typ_eq g
    unfold rowIn row0
    split
    · omega
    · split <;> omega
  · unfold colIn col0
    omega

theorem slot_out (g : Fin 8) (i : Fin 256) (a : Fin 768) (h : rowIn (typ g.val) (a.val / 64) (i.val / 64) ∧ colIn (a.val % 64) (i.val % 64)) : a ∈ Set.range (slot g i) := by
  obtain ⟨h1, h2⟩ := h
  have h3 := typ_eq g
  unfold colIn at h2
  have hr : 4 * chunk g.val + a.val / 64 - row0 (4 * g.val + i.val / 64) < 8 ∧ row0 (4 * g.val + i.val / 64) ≤ 4 * chunk g.val + a.val / 64 := by
    unfold rowIn at h1
    unfold row0
    split at h1
    · omega
    · split at h1 <;> omega
  have hc : a.val % 64 - col0 (i.val % 64) < 16 ∧ col0 (i.val % 64) ≤ a.val % 64 := by
    unfold col0
    omega
  have h4 := chunk_le_row g i
  refine ⟨⟨(4 * chunk g.val + a.val / 64 - row0 (4 * g.val + i.val / 64)) * 16 + (a.val % 64 - col0 (i.val % 64)), by omega⟩, Fin.ext ?_⟩
  unfold slot
  show (_ + (_ * 16 + _) / 16 - _) * 64 + (_ + (_ * 16 + _) % 16) = _
  omega

theorem slot_bias (g : Fin 8) (i : Fin 256) (n : Fin 128) :
    row0 (4 * g.val + i.val / 64) + n.val / 16 + 7 - (4 * g.val + i.val / 64) = (slot g i n).val / 64 + 7 - i.val / 64 - 4 * typ g.val := by
  rw [slot_row]
  have := typ_eq g
  have := chunk_le_row g i
  omega

variable (x0 x1 : FVec Ideal S2048x128 .bf16) (x2 : FVec Ideal S8x128x256 .bf16) (x3 : FVec Ideal S2x3x768x256 .f32)
variable (q k v : FVec Ideal S16384x1024 .f32) (rpb : FVec Ideal S16x15x31 .f32) (b : Fin 8) (p : Fin 8)

/-- The four windows of one point of the grid, of sequence `b` and the `p`-th pair of heads. -/
structure Windows : Prop where
  w0 : ∀ (y : Fin 2048) (j : Fin 128), (x0 (ix2 y j) : EReal) = q (ix2 ⟨b.val * 2048 + y.val, by omega⟩ ⟨p.val * 128 + j.val, by omega⟩) * Ideal.ofBits .f32 0x3E000000#32
  w1 : ∀ (y : Fin 2048) (j : Fin 128), (x1 (ix2 y j) : EReal) = k (ix2 ⟨b.val * 2048 + y.val, by omega⟩ ⟨p.val * 128 + j.val, by omega⟩)
  w2 : ∀ (g : Fin 8) (d : Fin 128) (n : Fin 256), (x2 (ix3 g d n) : EReal) = v (ix2 ⟨b.val * 2048 + (g.val * 256 + n.val), by omega⟩ ⟨p.val * 128 + d.val, by omega⟩)
  w3 : ∀ (h : Fin 2) (t : Fin 3) (a : Fin 768) (i : Fin 256), (x3 (ix4 h t a i) : EReal) = table rpb (ix4 ⟨p.val * 2 + h.val, by omega⟩ t a i)

variable {x0 x1 x2 x3 q k v rpb b p}

theorem at2 {α : Type} (x : S16384x1024.Idx → α) (r r' : Fin 16384) (c c' : Fin 1024) (hr : r.val = r'.val) (hc : c.val = c'.val) : x (ix2 r c) = x (ix2 r' c') :=
  congrArg₂ (fun i j => x (ix2 i j)) (Fin.ext hr) (Fin.ext hc)

theorem score_hit (W : Windows x0 x1 x2 x3 q k v rpb b p) (g : Fin 8) (i : Fin 256) (h : Fin 2) (n : Fin 128)
    (r : Fin 32) (hr : r.val = 4 * g.val + i.val / 64) (c : Fin 64) (hc : c.val = i.val % 64) (H : Fin 16) (hH : H.val = p.val * 2 + h.val) :
    kScore x0 x1 x3 h g i (slot g i n) = refScore q k rpb b r c H n * log2e := by
  have hk := slot_key g i n r hr c hc
  have hin := slot_in g i n
  unfold kScore refScore
  refine congrArg (· * log2e) (congrArg₂ (· + ·) (Finset.sum_congr rfl fun j _ => ?_) ?_)
  · rw [W.w0, W.w1, mul_comm]
    refine congrArg₂ (· * ·) (congrArg (· * _) (at2 q _ _ _ _ ?_ ?_)) (at2 k _ _ _ _ ?_ ?_) <;> dsimp only <;> omega
  · rw [W.w3]
    refine (table_hit rpb _ ⟨typ g.val, typ_lt _⟩ (slot g i n) i hin.1 hin.2 ⟨row0 r.val + n.val / 16 + 7 - r.val, by unfold row0; omega⟩
      ⟨col0 c.val + n.val % 16 + 15 - c.val, by unfold col0; omega⟩ ?_ ?_).trans ?_
    · show row0 r.val + n.val / 16 + 7 - r.val = _
      rw [hr]; exact slot_bias g i n
    · show col0 c.val + n.val % 16 + 15 - c.val = _
      rw [slot_col, hc]
    · exact congrArg (fun u => rpb (ix3 u _ _)) (Fin.ext hH.symm)

theorem score_miss (W : Windows x0 x1 x2 x3 q k v rpb b p) (g : Fin 8) (i : Fin 256) (h : Fin 2) (a : Fin 768) (ha : a ∉ Set.range (slot g i)) :
    kScore x0 x1 x3 h g i a = ⊥ := by
  unfold kScore
  rw [W.w3, table_miss rpb _ _ a i fun hi => ha (slot_out g i a hi), EReal.add_bot]
  exact EReal.bot_mul_coe_of_pos log_two_pos

/-- One entry. -/
theorem out_eq (W : Windows x0 x1 x2 x3 q k v rpb b p) (hq : ∀ y, IsReal (q y)) (hk : ∀ y, IsReal (k y)) (hb : ∀ y, IsReal (rpb y)) (g : Fin 8) (i : Fin 256) (h : Fin 2) (d : Fin 64)
    (r : Fin 32) (hr : r.val = 4 * g.val + i.val / 64) (c : Fin 64) (hc : c.val = i.val % 64) (H : Fin 16) (hH : H.val = p.val * 2 + h.val) :
    kOut x0 x1 x2 x3 h g i d
      = ∑ n : Fin 128, Ideal.div (Ideal.exp (refScore q k rpb b r c H n - Finset.univ.sup (refScore q k rpb b r c H)))
            (∑ n' : Fin 128, Ideal.exp (refScore q k rpb b r c H n' - Finset.univ.sup (refScore q k rpb b r c H)))
          * v (ix2 ⟨b.val * 2048 + keyRow r c n, by unfold keyRow row0 col0; omega⟩ ⟨H.val * 64 + d.val, by omega⟩) := by
  unfold kOut
  refine (softmax (refScore q k rpb b r c H) _ _ (slot g i) (slot_inj g i)
    (fun n => (IsReal.sum _ _ fun j => ((hq _).mul eighth_real).mul (hk _)).add (hb _))
    (fun n => score_hit W g i h n r hr c hc H hH) (fun a ha => score_miss W g i h a ha)).trans ?_
  refine Finset.sum_congr rfl fun n _ => congrArg₂ (· * ·) rfl ?_
  have hk := slot_key g i n r hr c hc
  unfold kVal
  rw [W.w2]
  refine at2 v _ _ _ _ ?_ ?_ <;> dsimp only <;> omega

end Cert.KernelIdeal.Na

end
-- ==== Proof.Na.Value.lean ====
module

public import proofs.«01_k».proof.Proof.Na.Math
public import proofs.«01_k».proof.Proof.Gen.Pre_finite
public import proofs.«01_k».proof.Proof.Gen.ReferenceIdeal.Run
public import proofs.«01_k».proof.Defs
public import Idealize.ShloMosaic.Lib.Pipeline.ValueKit
public import Idealize.ShloMosaic.Lib.Claim

/-! # The attention call's result array is the reference's -/

@[expose] public section

set_option maxRecDepth 16384

noncomputable section

namespace Cert.KernelIdeal.Na

open Idealize.ShloMosaic Idealize.ShloMosaic.TcCoe Idealize.ShloMosaic.Tactic Idealize.SL.Sem
open Idealize.ShloMosaic.Pipeline (Dat Cfg Window BodyObligation cellOf)
open Idealize.ShloMosaic.Pointwise
open Cert.KernelIdeal.Gen Cert.Shared
open Cert.ReferenceIdeal.Na (row0 col0 keyRow refScore)

/-- Where every window's block lies. -/
theorem idx : ∀ t : Fin cfg0.N, win0_0.index t = ![t.val % 8, t.val / 8] ∧ win0_1.index t = ![t.val % 8, t.val / 8] ∧ win0_2.index t = ![t.val % 8, t.val / 8, 0]
    ∧ win0_3.index t = ![t.val / 8, 0, 0, 0] ∧ win0_4.index t = ![t.val % 8, t.val / 8] ∧ t.val < 64 :=
  (by decide +kernel : ∀ t : Fin grid0.N, _)

variable (m : (ℓ : Loc nD τ sig) → Buf (Elt Ideal) ℓ)

/-- The arrays the host hands to the call. -/
def hostQ (x : FVec Ideal S16384x1024 .f32) : FVec Ideal S16384x1024 .bf16 :=
  truncf .bf16 (mulf x (broadcastInDim S16384x1024 ![] bcast_S_S16384x1024 (constant S_ .f32 0x3E000000#32))) bitsLt_bf16_f32
def hostK (x : FVec Ideal S16384x1024 .f32) : FVec Ideal S16384x1024 .bf16 := truncf .bf16 x bitsLt_bf16_f32
def hostV (x : FVec Ideal S16384x1024 .f32) : FVec Ideal S64x1024x256 .bf16 :=
  transpose S64x1024x256 [0, 2, 1] (shapeCast S64x256x1024 (truncf .bf16 x bitsLt_bf16_f32) shapeCasts_S16384x1024_S64x256x1024) transposes_S64x256x1024_S64x1024x256_0_2_1

theorem hostQ_at (x : FVec Ideal S16384x1024 .f32) (i : Fin 16384) (j : Fin 1024) : (hostQ x (ix2 i j) : EReal) = x (ix2 i j) * Ideal.ofBits .f32 0x3E000000#32 := by
  unfold hostQ
  pointwise
theorem hostK_at (x : FVec Ideal S16384x1024 .f32) (i : Fin 16384) (j : Fin 1024) : (hostK x (ix2 i j) : EReal) = x (ix2 i j) := by
  unfold hostK
  pointwise
theorem hostV_at (x : FVec Ideal S16384x1024 .f32) (g : Fin 64) (d : Fin 1024) (n : Fin 256) : (hostV x (ix3 g d n) : EReal) = x (ix2 ⟨g.val * 256 + n.val, by omega⟩ d) := by
  unfold hostV
  pointwise

set_option maxHeartbeats 2000000 in
theorem V_q (c : Dev nD) : (V m c main_v2 : FVec Ideal S16384x1024 .bf16) = hostQ (m ((c : Thread nD τ).loc main_arg0)) := by
  simp only [V, List.flatten_cons, List.flatten_nil, hostOps0, hostOps0_1, hostOps0_2, hostOps0_3, hostOps0_4, hostOps0_5, hostOps0_6, hostOps0_7, hostOps0_8, hostOps0_9, hostOps0_10, List.cons_append, List.nil_append, List.append_nil]
  entry_read
  rfl
set_option maxHeartbeats 2000000 in
theorem V_k (c : Dev nD) : (V m c main_v3 : FVec Ideal S16384x1024 .bf16) = hostK (m ((c : Thread nD τ).loc main_arg1)) := by
  simp only [V, List.flatten_cons, List.flatten_nil, hostOps0, hostOps0_1, hostOps0_2, hostOps0_3, hostOps0_4, hostOps0_5, hostOps0_6, hostOps0_7, hostOps0_8, hostOps0_9, hostOps0_10, List.cons_append, List.nil_append, List.append_nil]
  entry_read
  rfl
set_option maxHeartbeats 2000000 in
theorem V_v (c : Dev nD) : (V m c main_v6 : FVec Ideal S64x1024x256 .bf16) = hostV (m ((c : Thread nD τ).loc main_arg2)) := by
  simp only [V, List.flatten_cons, List.flatten_nil, hostOps0, hostOps0_1, hostOps0_2, hostOps0_3, hostOps0_4, hostOps0_5, hostOps0_6, hostOps0_7, hostOps0_8, hostOps0_9, hostOps0_10, List.cons_append, List.nil_append, List.append_nil]
  entry_read
  rfl

/-- The windows' blocks at an element, out of the arrays the host hands over. -/
theorem blk0 (c : Dev nD) (t : Fin cfg0.N) (y : Fin 2048) (j : Fin 128) (i : Fin 16384) (hi : i.val = t.val % 8 * 2048 + y.val) (k : Fin 1024) (hk : k.val = t.val / 8 * 128 + j.val) :
    iblk m c 0 t (ix2 y j) = (V m c main_v2 : FVec Ideal S16384x1024 .bf16) (ix2 i k) := by
  blk_point [iblk, idx t]
theorem blk1 (c : Dev nD) (t : Fin cfg0.N) (y : Fin 2048) (j : Fin 128) (i : Fin 16384) (hi : i.val = t.val % 8 * 2048 + y.val) (k : Fin 1024) (hk : k.val = t.val / 8 * 128 + j.val) :
    iblk m c 1 t (ix2 y j) = (V m c main_v3 : FVec Ideal S16384x1024 .bf16) (ix2 i k) := by
  blk_point [iblk, idx t]
theorem blk2 (c : Dev nD) (t : Fin cfg0.N) (g : Fin 8) (d : Fin 128) (n : Fin 256) (i : Fin 64) (hi : i.val = t.val % 8 * 8 + g.val) (k : Fin 1024) (hk : k.val = t.val / 8 * 128 + d.val) :
    iblk m c 2 t (ix3 g d n) = (V m c main_v6 : FVec Ideal S64x1024x256 .bf16) (ix3 i k n) := by
  blk_point [iblk, idx t]
theorem blk3 (c : Dev nD) (t : Fin cfg0.N) (h : Fin 2) (y : Fin 3) (a : Fin 768) (i : Fin 256) (k : Fin 16) (hk : k.val = t.val / 8 * 2 + h.val) :
    iblk m c 3 t (ix4 h y a i) = (V m c main_v72 : FVec Ideal S16x3x768x256 .f32) (ix4 k y a i) := by
  blk_point [iblk, idx t]

theorem windows (c : Dev nD) (t : Fin cfg0.N) (b p : Fin 8) (hb : b.val = t.val % 8) (hp : p.val = t.val / 8) :
    Windows (iblk m c 0 t) (iblk m c 1 t) (iblk m c 2 t) (iblk m c 3 t) (m ((c : Thread nD τ).loc main_arg0)) (m ((c : Thread nD τ).loc main_arg1))
      (m ((c : Thread nD τ).loc main_arg2)) (m ((c : Thread nD τ).loc main_arg3)) b p where
  w0 y j := by
    refine (blk0 m c t y j ⟨b.val * 2048 + y.val, by omega⟩ (by rw [← hb]) ⟨p.val * 128 + j.val, by omega⟩ (by rw [← hp])).trans ?_
    rw [V_q]
    exact hostQ_at _ _ _
  w1 y j := by
    refine (blk1 m c t y j ⟨b.val * 2048 + y.val, by omega⟩ (by rw [← hb]) ⟨p.val * 128 + j.val, by omega⟩ (by rw [← hp])).trans ?_
    rw [V_k]
    exact hostK_at _ _ _
  w2 g d n := by
    refine (blk2 m c t g d n ⟨b.val * 8 + g.val, by omega⟩ (by rw [← hb]) ⟨p.val * 128 + d.val, by omega⟩ (by rw [← hp])).trans ?_
    rw [V_v]
    exact (hostV_at _ _ _ _).trans (at2 _ _ _ _ _ (by show (b.val * 8 + g.val) * 256 + n.val = b.val * 2048 + (g.val * 256 + n.val); omega) rfl)
  w3 h y a i := by
    refine (blk3 m c t h y a i ⟨p.val * 2 + h.val, by omega⟩ (by rw [← hp])).trans ?_
    rw [V_table]

attribute [local instance] Cert.ReferenceIdeal.Gen.facts

/-- The reference's result, of its four arguments. -/
def refOut (q k v : FVec Ideal S16384x1024 .f32) (rpb : FVec Ideal S16x15x31 .f32) : FVec Ideal S16384x1024 .bf16 :=
  Cert.ReferenceIdeal.Na.mix (Cert.ReferenceIdeal.Na.prob (Cert.ReferenceIdeal.Na.sexp (Cert.ReferenceIdeal.Na.score q
    (Cert.ReferenceIdeal.Na.gath Cert.ReferenceIdeal.Na.kvIdx k) (Cert.ReferenceIdeal.Na.gbias Cert.ReferenceIdeal.Na.biasIdx rpb)))) (Cert.ReferenceIdeal.Na.gath Cert.ReferenceIdeal.Na.kvIdx v)

/-- One element of one point's block. -/
theorem point (c : Dev nD) (hq : ∀ y, IsReal (m ((c : Thread nD τ).loc main_arg0) y)) (hk : ∀ y, IsReal (m ((c : Thread nD τ).loc main_arg1) y))
    (hb : ∀ y, IsReal (m ((c : Thread nD τ).loc main_arg3) y)) (t : Fin cfg0.N) (y : S2048x128.Idx) (r : Fin 16384) (hr : r.val = t.val % 8 * 2048 + (y 0).val)
    (k : Fin 1024) (hk' : k.val = t.val / 8 * 128 + (y 1).val) :
    (naOut (F := Ideal) (iblk m c 0 t) (iblk m c 1 t) (iblk m c 2 t) (iblk m c 3 t) y : EReal)
      = refOut (m ((c : Thread nD τ).loc main_arg0)) (m ((c : Thread nD τ).loc main_arg1)) (m ((c : Thread nD τ).loc main_arg2)) (m ((c : Thread nD τ).loc main_arg3)) (ix2 r k) := by
  have ht : t.val < 64 := (idx t).2.2.2.2.2
  have h0 : (y 0).val < 2048 := (y 0).isLt
  have h1 : (y 1).val < 128 := (y 1).isLt
  have W := windows m c t ⟨t.val % 8, by omega⟩ ⟨t.val / 8, by omega⟩ rfl rfl
  have hy : y = ix2 ⟨256 * ((y 0).val / 256) + (y 0).val % 256, by omega⟩ ⟨64 * ((y 1).val / 64) + (y 1).val % 64, by omega⟩ :=
    funext (Fin.forall_fin_two.mpr ⟨Fin.ext (by show (y 0).val = 256 * ((y 0).val / 256) + (y 0).val % 256; omega), Fin.ext (by show (y 1).val = 64 * ((y 1).val / 64) + (y 1).val % 64; omega)⟩)
  refine (congrArg _ hy).trans ((naOut_at _ _ _ _ ⟨(y 0).val / 256, by omega⟩ ⟨(y 0).val % 256, by omega⟩ ⟨(y 1).val / 64, by omega⟩ ⟨(y 1).val % 64, by omega⟩).trans ?_)
  refine (out_eq W hq hk hb _ _ _ _ ⟨(y 0).val / 64, by omega⟩ (by show (y 0).val / 64 = 4 * ((y 0).val / 256) + (y 0).val % 256 / 64; omega)
    ⟨(y 0).val % 64, by omega⟩ (by show (y 0).val % 64 = (y 0).val % 256 % 64; omega) ⟨t.val / 8 * 2 + (y 1).val / 64, by omega⟩ rfl).trans ?_
  refine (Cert.ReferenceIdeal.Na.ref_at _ _ _ _ ⟨t.val % 8, by omega⟩ _ _ _ _).symm.trans ?_
  unfold refOut
  refine at2 _ _ _ _ _ ?_ ?_ <;> dsimp only <;> omega

/-- The result array. -/
theorem final (c : Dev nD) (hq : ∀ y, IsReal (m ((c : Thread nD τ).loc main_arg0) y)) (hk : ∀ y, IsReal (m ((c : Thread nD τ).loc main_arg1) y))
    (hb : ∀ y, IsReal (m ((c : Thread nD τ).loc main_arg3) y)) : (dats m 0 c).arrAt 4 cfg0.N
    = refOut (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after_4]
  unfold outAt
  have ht : t.val < 64 := (idx t).2.2.2.2.2
  have h0 : (y 0).val < 2048 := (y 0).isLt
  have h1 : (y 1).val < 128 := (y 1).isLt
  refine (point m c hq hk hb t y ⟨t.val % 8 * 2048 + (y 0).val, by omega⟩ rfl ⟨t.val / 8 * 128 + (y 1).val, by omega⟩ rfl).trans (congrArg _ ?_)
  blk_ext [idx t]

/-- The run of the call names its result array and keeps its arguments. -/
theorem run_blocks (g : Dev nD → PrngReg) : θ_run defs (onTc (τ := τ) (main (F := Ideal))) ⟨m, fun _ => 0, g⟩ fun r => ∀ c : Dev nD,
      r.2.mem ((c : Thread nD τ).loc main_v73) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run m g)

instance : Subsingleton (Cert.Pre_finite.S_).Idx := ⟨fun a b => funext fun i => i.elim0⟩

/-- What the precondition says: the queries, the keys and the biases are real numbers. -/
theorem reals (q k v : FVec Ideal S16384x1024 .f32) (rpb : FVec Ideal S16x15x31 .f32)
    (h : Cert.Pre_finite.fn (F := Ideal) q k v rpb = fun _ => 1#1) : (∀ y, IsReal (q y)) ∧ (∀ y, IsReal (k y)) ∧ ∀ y, IsReal (rpb y) := by
  have h0 := congrFun h (fun i => i.elim0)
  unfold Cert.Pre_finite.fn at h0
  obtain ⟨h1, h2⟩ := IntOp.andi_eq_one.1 h0
  obtain ⟨h3, h4⟩ := IntOp.andi_eq_one.1 h1
  exact ⟨fun y => real_of_lt _ (Host.reduce_andi_all _ _ _ _ _ h3 y), fun y => real_of_lt _ (Host.reduce_andi_all _ _ _ _ _ h4 y),
    fun y => real_of_lt _ (Host.reduce_andi_all _ _ _ _ _ h2 y)⟩

/-- The attention call and its reference, from equal arguments of which queries, keys and biases are finite, give equal results. -/
theorem algebraic : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hpre hagree
  refine ⟨fun c => (dats m 0 c).arrAt 4 cfg0.N, run_blocks m g, (θ_run Cert.ReferenceIdeal.defs _ _).mono ?_ (Cert.ReferenceIdeal.Value.run m' g')⟩
  intro r h c
  obtain ⟨h0, h1, h2, h3⟩ := hagree c
  obtain ⟨hv, hargs⟩ := h c
  obtain ⟨hq, hk, hb⟩ := reals _ _ _ _ (hpre c)
  have e : refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      = refOut (m ((c.tc : Thread nD τ).loc main_arg0)) (m ((c.tc : Thread nD τ).loc main_arg1)) (m ((c.tc : Thread nD τ).loc main_arg2)) (m ((c.tc : Thread nD τ).loc main_arg3)) :=
    congr (congr (congr (congrArg refOut h0) h1) h2) h3
  exact ⟨hv.trans ((Cert.ReferenceIdeal.Na.res_eq m' c).trans (e.trans (final m c hq hk hb).symm)), hargs⟩

end Cert.KernelIdeal.Na

end
-- ==== Proof.Ffn.Block.lean ====
module

public import proofs.«01_k».proof.Proof.Gen.Kernel2Ideal.Value
public import proofs.«01_k».proof.Proof.Shared.Loads

/-! # What one point of the feed-forward call computes -/

@[expose] public section

set_option maxRecDepth 16384

noncomputable section

namespace Cert.Kernel2Ideal.Ffn

open Idealize.ShloMosaic Idealize.ShloMosaic.TcCoe Idealize.ShloMosaic.Tactic
open Idealize.ShloMosaic.Pipeline (Dat Cfg Window BodyObligation cellOf)
open Cert.Kernel2Ideal.Gen Cert.Shared

variable {F : FTy → Type} [FloatOps F]

/-- The gated products of 256 columns, from column `256 j`. -/
def cols (v : FVec F S512x1024 .bf16) (x4 x5 : Vec F S1024x2816 .bf16) (j : ℕ) : FVec F S512x256 .bf16 :=
  k0_pay6 v (win (s := S1024x2816) (by decide) S1024x256.size ![0, 256 * j] x4) (win (s := S1024x2816) (by decide) S1024x256.size ![0, 256 * j] x5)

/-- The gated products, chunk by chunk. -/
def act (v : FVec F S512x1024 .bf16) (x4 x5 : Vec F S1024x2816 .bf16) : Vec F S512x2816 .bf16 :=
  fun y => cols v x4 x5 ((y 1).val / 256) (fun a => ⟨(y a).val % S512x256.size a, Nat.mod_lt _ ((by decide : ∀ a, 0 < S512x256.size a) a)⟩)

/-- What the body leaves in the output's block. -/
def blockOut (x0 : Vec F S512x1024 .f32) (x1 : Vec F S512x1024 .bf16) (x2 : Vec F S1024x1024 .bf16) (x3 : Vec F S1x1024 .f32) (x4 : Vec F S1024x2816 .bf16) (x5 : Vec F S1024x2816 .bf16) (x6 : Vec F S2816x1024 .bf16) (x7 : Vec F S1x1024 .f32) : Vec F S512x1024 .f32 :=
  k0_pay1 (k0_pay22 (k0_pay2 x0 x1 x2) (act (k0_pay3 x0 x1 x2 x3) x4 x5) x6) (k0_pay23 x7)
    (k0_pay24 (k0_pay2 x0 x1 x2) (act (k0_pay3 x0 x1 x2 x3) x4 x5) x6)

section Act

variable {sg : RefSig} {κk : Kind} {sp : Space} (a : View sg κk sp S512x2816 .bf16) (f : a.ty.Contents (Elt F)) (v : FVec F S512x1024 .bf16) (x4 x5 : Vec F S1024x2816 .bf16)

/-- Reading a column of chunk `k`, just stored, -/
theorem read_cols (k : ℕ) {off : Fin 2 → ℕ} (inb : ∀ a, off a + S512x256.size a ≤ S512x2816.size a) (w : FVec F S512x256 .bf16)
    (L : List (View.Piece (Elt F) S512x2816 .bf16)) (y : S512x2816.Idx) (ho : off = ![0, 256 * k]) (hk : (y 1).val / 256 = k) (hw : w = cols v x4 x5 k) :
    a.read (Elt F) (a.writes (Elt F) f ((⟨Rect.unit (s := S512x2816) off S512x256.size inb, w⟩ : View.Piece (Elt F) S512x2816 .bf16) :: L)) y = act v x4 x5 y := by
  subst hw ho hk
  have hy : (y 0).val < 512 := (y 0).isLt
  refine (read_hit a f inb _ L y (fun b => ⟨(y b).val % S512x256.size b, Nat.mod_lt _ ((by decide : ∀ a, 0 < S512x256.size a) b)⟩) (Fin.forall_fin_two.mpr ⟨?_, ?_⟩)).trans rfl
  · show (y 0).val = 0 + (y 0).val % 512
    omega
  · show (y 1).val = 256 * ((y 1).val / 256) + (y 1).val % 256
    omega

/-- and a column of another chunk. -/
theorem read_others (k : ℕ) {off : Fin 2 → ℕ} (inb : ∀ a, off a + S512x256.size a ≤ S512x2816.size a) (w : FVec F S512x256 .bf16)
    (L : List (View.Piece (Elt F) S512x2816 .bf16)) (y : S512x2816.Idx) (ho : off = ![0, 256 * k]) (hk : (y 1).val / 256 ≠ k) :
    a.read (Elt F) (a.writes (Elt F) f ((⟨Rect.unit (s := S512x2816) off S512x256.size inb, w⟩ : View.Piece (Elt F) S512x2816 .bf16) :: L)) y
      = a.read (Elt F) (a.writes (Elt F) f L) y := by
  subst ho
  refine read_miss a f inb w L y 1 ?_
  show (y 1).val < 256 * k ∨ 256 * k + 256 ≤ (y 1).val
  omega

/-- The buffer of gated products, read back after its eleven stores. -/
theorem read_act_at {w0 w1 w2 w3 w4 w5 w6 w7 w8 w9 w10 : FVec F S512x256 .bf16} (inb0) (inb1) (inb2) (inb3) (inb4) (inb5) (inb6) (inb7) (inb8) (inb9) (inb10)
    (h0 : w0 = cols v x4 x5 0) (h1 : w1 = cols v x4 x5 1) (h2 : w2 = cols v x4 x5 2) (h3 : w3 = cols v x4 x5 3) (h4 : w4 = cols v x4 x5 4) (h5 : w5 = cols v x4 x5 5) (h6 : w6 = cols v x4 x5 6) (h7 : w7 = cols v x4 x5 7) (h8 : w8 = cols v x4 x5 8) (h9 : w9 = cols v x4 x5 9) (h10 : w10 = cols v x4 x5 10) (y : S512x2816.Idx) :
    a.read (Elt F) (a.writes (Elt F) f ([⟨Rect.unit (s := S512x2816) ![0, 2560] S512x256.size inb10, w10⟩, ⟨Rect.unit (s := S512x2816) ![0, 2304] S512x256.size inb9, w9⟩, ⟨Rect.unit (s := S512x2816) ![0, 2048] S512x256.size inb8, w8⟩, ⟨Rect.unit (s := S512x2816) ![0, 1792] S512x256.size inb7, w7⟩, ⟨Rect.unit (s := S512x2816) ![0, 1536] S512x256.size inb6, w6⟩, ⟨Rect.unit (s := S512x2816) ![0, 1280] S512x256.size inb5, w5⟩, ⟨Rect.unit (s := S512x2816) ![0, 1024] S512x256.size inb4, w4⟩, ⟨Rect.unit (s := S512x2816) ![0, 768] S512x256.size inb3, w3⟩, ⟨Rect.unit (s := S512x2816) ![0, 512] S512x256.size inb2, w2⟩, ⟨Rect.unit (s := S512x2816) ![0, 256] S512x256.size inb1, w1⟩, ⟨Rect.unit (s := S512x2816) ![0, 0] S512x256.size inb0, w0⟩] : List (View.Piece (Elt F) S512x2816 .bf16))) y = act v x4 x5 y := by
  have hy : (y 1).val < 2816 := (y 1).isLt
  by_cases c10 : (y 1).val / 256 = 10
  · exact read_cols a f v x4 x5 10 inb10 w10 _ y rfl c10 h10
  refine (read_others a f 10 inb10 w10 _ y rfl c10).trans ?_
  by_cases c9 : (y 1).val / 256 = 9
  · exact read_cols a f v x4 x5 9 inb9 w9 _ y rfl c9 h9
  refine (read_others a f 9 inb9 w9 _ y rfl c9).trans ?_
  by_cases c8 : (y 1).val / 256 = 8
  · exact read_cols a f v x4 x5 8 inb8 w8 _ y rfl c8 h8
  refine (read_others a f 8 inb8 w8 _ y rfl c8).trans ?_
  by_cases c7 : (y 1).val / 256 = 7
  · exact read_cols a f v x4 x5 7 inb7 w7 _ y rfl c7 h7
  refine (read_others a f 7 inb7 w7 _ y rfl c7).trans ?_
  by_cases c6 : (y 1).val / 256 = 6
  · exact read_cols a f v x4 x5 6 inb6 w6 _ y rfl c6 h6
  refine (read_others a f 6 inb6 w6 _ y rfl c6).trans ?_
  by_cases c5 : (y 1).val / 256 = 5
  · exact read_cols a f v x4 x5 5 inb5 w5 _ y rfl c5 h5
  refine (read_others a f 5 inb5 w5 _ y rfl c5).trans ?_
  by_cases c4 : (y 1).val / 256 = 4
  · exact read_cols a f v x4 x5 4 inb4 w4 _ y rfl c4 h4
  refine (read_others a f 4 inb4 w4 _ y rfl c4).trans ?_
  by_cases c3 : (y 1).val / 256 = 3
  · exact read_cols a f v x4 x5 3 inb3 w3 _ y rfl c3 h3
  refine (read_others a f 3 inb3 w3 _ y rfl c3).trans ?_
  by_cases c2 : (y 1).val / 256 = 2
  · exact read_cols a f v x4 x5 2 inb2 w2 _ y rfl c2 h2
  refine (read_others a f 2 inb2 w2 _ y rfl c2).trans ?_
  by_cases c1 : (y 1).val / 256 = 1
  · exact read_cols a f v x4 x5 1 inb1 w1 _ y rfl c1 h1
  refine (read_others a f 1 inb1 w1 _ y rfl c1).trans ?_
  exact read_cols a f v x4 x5 0 inb0 w0 _ y rfl (by omega) h0

/-- The same, as the load of the whole buffer. -/
theorem read_act {w0 w1 w2 w3 w4 w5 w6 w7 w8 w9 w10 : FVec F S512x256 .bf16} (inb0) (inb1) (inb2) (inb3) (inb4) (inb5) (inb6) (inb7) (inb8) (inb9) (inb10) (inb)
    (h0 : w0 = cols v x4 x5 0) (h1 : w1 = cols v x4 x5 1) (h2 : w2 = cols v x4 x5 2) (h3 : w3 = cols v x4 x5 3) (h4 : w4 = cols v x4 x5 4) (h5 : w5 = cols v x4 x5 5) (h6 : w6 = cols v x4 x5 6) (h7 : w7 = cols v x4 x5 7) (h8 : w8 = cols v x4 x5 8) (h9 : w9 = cols v x4 x5 9) (h10 : w10 = cols v x4 x5 10) :
    View.readCov a ([⟨Rect.unit (s := S512x2816) ![0, 2560] S512x256.size inb10, w10⟩, ⟨Rect.unit (s := S512x2816) ![0, 2304] S512x256.size inb9, w9⟩, ⟨Rect.unit (s := S512x2816) ![0, 2048] S512x256.size inb8, w8⟩, ⟨Rect.unit (s := S512x2816) ![0, 1792] S512x256.size inb7, w7⟩, ⟨Rect.unit (s := S512x2816) ![0, 1536] S512x256.size inb6, w6⟩, ⟨Rect.unit (s := S512x2816) ![0, 1280] S512x256.size inb5, w5⟩, ⟨Rect.unit (s := S512x2816) ![0, 1024] S512x256.size inb4, w4⟩, ⟨Rect.unit (s := S512x2816) ![0, 768] S512x256.size inb3, w3⟩, ⟨Rect.unit (s := S512x2816) ![0, 512] S512x256.size inb2, w2⟩, ⟨Rect.unit (s := S512x2816) ![0, 256] S512x256.size inb1, w1⟩, ⟨Rect.unit (s := S512x2816) ![0, 0] S512x256.size inb0, w0⟩] : List (View.Piece (Elt F) S512x2816 .bf16)) (Rect.unit (s := S512x2816) ![0, 0] S512x2816.size inb).toLoadRect = act v x4 x5 := by
  funext y
  refine Eq.trans ?_ (read_act_at a a.junk v x4 x5 inb0 inb1 inb2 inb3 inb4 inb5 inb6 inb7 inb8 inb9 inb10 h0 h1 h2 h3 h4 h5 h6 h7 h8 h9 h10 y)
  unfold View.readCov
  show View.read (Elt F) a _ ((Rect.unit (s := S512x2816) ![0, 0] S512x2816.size inb).toLoadRect.idx y) = _
  congr 1
  funext k; apply Fin.ext
  have h2 : (![0, 0] : Fin 2 → ℕ) k + S512x2816.size k ≤ S512x2816.size k := inb k
  show (![0, 0] : Fin 2 → ℕ) k + 1 * (y k).val = (y k).val
  omega

end Act

theorem close_out {y0 x0 : Vec F S512x1024 .f32} {y1 x1 : Vec F S512x1024 .bf16} {y2 x2 : Vec F S1024x1024 .bf16} {x3 : Vec F S1x1024 .f32} {x4 x5 : Vec F S1024x2816 .bf16} {y6 x6 : Vec F S2816x1024 .bf16} {y7 x7 : Vec F S1x1024 .f32}
    {A : Vec F S512x2816 .bf16} (h0 : y0 = x0) (h1 : y1 = x1) (h2 : y2 = x2) (h6 : y6 = x6) (h7 : y7 = x7) (hA : A = act (k0_pay3 x0 x1 x2 x3) x4 x5) :
    k0_pay1 (k0_pay22 (k0_pay2 y0 y1 y2) A y6) (k0_pay23 y7) (k0_pay24 (k0_pay2 y0 y1 y2) A y6) = blockOut x0 x1 x2 x3 x4 x5 x6 x7 := by
  subst h0 h1 h2 h6 h7 hA; rfl

theorem cols_of {v v' : FVec F S512x1024 .bf16} {x4 x5 : Vec F S1024x2816 .bf16} {y4 y5 : FVec F S1024x256 .bf16} {j : ℕ} (hv : v = v')
    (h4 : y4 = win (s := S1024x2816) (by decide) S1024x256.size ![0, 256 * j] x4) (h5 : y5 = win (s := S1024x2816) (by decide) S1024x256.size ![0, 256 * j] x5) :
    k0_pay6 v y4 y5 = cols v' x4 x5 j := by
  subst hv h4 h5; rfl

theorem norm_eq {y0 x0 : Vec F S512x1024 .f32} {y1 x1 : Vec F S512x1024 .bf16} {y2 x2 : Vec F S1024x1024 .bf16} {y3 x3 : Vec F S1x1024 .f32}
    (h0 : y0 = x0) (h1 : y1 = x1) (h2 : y2 = x2) (h3 : y3 = x3) : k0_pay3 y0 y1 y2 y3 = k0_pay3 x0 x1 x2 x3 := by
  subst h0 h1 h2 h3; rfl

set_option maxHeartbeats 600000 in
/-- What the run leaves in the output's block is the block computed. -/
theorem out_eq (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x2816 .bf16) (harg5 : arg5.IsWhole) (arg6 : Memref sig .tc .vmem S1024x2816 .bf16) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x2816 .bf16) (harg10 : arg10.IsWhole)
    (x0 : Vec F S512x1024 .f32) (x1 : Vec F S512x1024 .bf16) (x2 : Vec F S1024x1024 .bf16) (x3 : Vec F S1x1024 .f32) (x4 : Vec F S1024x2816 .bf16) (x5 : Vec F S1024x2816 .bf16) (x6 : Vec F S2816x1024 .bf16) (x7 : Vec F S1x1024 .f32) : out0_A_8 c i arg1 harg1 arg2 harg2 arg3 harg3 arg4 harg4 arg5 harg5 arg6 harg6 arg7 harg7 arg8 harg8 arg9 harg9 arg10 harg10 x0 x1 x2 x3 x4 x5 x6 x7 = blockOut x0 x1 x2 x3 x4 x5 x6 x7 := by
  unfold out0_A_8 kernelRun0_A
  dsimp only
  sl_unfold_run_names
  rw [read_whole]
  have hv := norm_eq (readAt_whole harg1 x0 inb_S512x1024_S512x1024_0_0) (readAt_whole harg2 x1 inb_S512x1024_S512x1024_0_0) (readAt_whole harg3 x2 inb_S1024x1024_S1024x1024_0_0) (readAt_whole harg4 x3 inb_S1x1024_S1x1024_0_0)
  exact close_out (readAt_whole harg1 x0 _) (readAt_whole harg2 x1 _) (readAt_whole harg3 x2 _) (readAt_whole harg7 x6 _) (readAt_whole harg8 x7 _)
   (read_act arg10.view _ x4 x5 _ _ _ _ _ _ _ _ _ _ _ _
    (cols_of hv (readAt_win harg5 x4 (by decide) _ rfl) (readAt_win harg6 x5 (by decide) _ rfl))
    (cols_of hv (readAt_win harg5 x4 (by decide) _ rfl) (readAt_win harg6 x5 (by decide) _ rfl))
    (cols_of hv (readAt_win harg5 x4 (by decide) _ rfl) (readAt_win harg6 x5 (by decide) _ rfl))
    (cols_of hv (readAt_win harg5 x4 (by decide) _ rfl) (readAt_win harg6 x5 (by decide) _ rfl))
    (cols_of hv (readAt_win harg5 x4 (by decide) _ rfl) (readAt_win harg6 x5 (by decide) _ rfl))
    (cols_of hv (readAt_win harg5 x4 (by decide) _ rfl) (readAt_win harg6 x5 (by decide) _ rfl))
    (cols_of hv (readAt_win harg5 x4 (by decide) _ rfl) (readAt_win harg6 x5 (by decide) _ rfl))
    (cols_of hv (readAt_win harg5 x4 (by decide) _ rfl) (readAt_win harg6 x5 (by decide) _ rfl))
    (cols_of hv (readAt_win harg5 x4 (by decide) _ rfl) (readAt_win harg6 x5 (by decide) _ rfl))
    (cols_of hv (readAt_win harg5 x4 (by decide) _ rfl) (readAt_win harg6 x5 (by decide) _ rfl))
    (cols_of hv (readAt_win harg5 x4 (by decide) _ rfl) (readAt_win harg6 x5 (by decide) _ rfl)))

end Cert.Kernel2Ideal.Ffn

end
-- ==== Proof.Ffn.Math.lean ====
module

public import proofs.«01_k».proof.Proof.Ffn.Block
public import proofs.«01_k».proof.Proof.Gen.Reference2Ideal.Read
public import Idealize.ShloMosaic.Lib.Pointwise

/-! # The feed-forward call and its reference compute the same row -/

@[expose] public section

set_option maxRecDepth 16384

noncomputable section

namespace Cert.Kernel2Ideal.Ffn

open Idealize.ShloMosaic Idealize.ShloMosaic.TcCoe Idealize.ShloMosaic.Tactic
open Cert.Kernel2Ideal.Gen Cert.Shared

/-- A row scaled by its root mean square and a gain. -/
def nrm (w g : Fin 1024 → EReal) (c : Fin 1024) : EReal :=
  w c * Ideal.rsqrt (Ideal.div (∑ x, w x * w x) (Ideal.ofBits FTy.f32 1149239296#32) + Ideal.ofBits FTy.f32 897988541#32) * g c

/-- The gated product of a normalised row, one column. -/
def gate (v : Fin 1024 → EReal) (wg wu : Fin 1024 → Fin 2816 → EReal) (c : Fin 2816) : EReal :=
  Ideal.div (∑ x, v x * wg x c) (1 + Ideal.exp (0 - ∑ x, v x * wg x c)) * ∑ x, v x * wu x c

/-- The residual row before the feed-forward. -/
def res (x a : Fin 1024 → EReal) (wo : Fin 1024 → Fin 1024 → EReal) (c : Fin 1024) : EReal :=
  x c + ∑ k, a k * wo k c

/-- The residual row after it. -/
def res2 (w g : Fin 1024 → EReal) (wg wu : Fin 1024 → Fin 2816 → EReal) (wd : Fin 2816 → Fin 1024 → EReal) (c : Fin 1024) : EReal :=
  w c + Ideal.ofBits FTy.f32 1056964608#32 * ∑ k, gate (nrm w g) wg wu k * wd k c

/-- What the call gives of one row. -/
def rowOut (x a : Fin 1024 → EReal) (wo : Fin 1024 → Fin 1024 → EReal) (g : Fin 1024 → EReal) (wg wu : Fin 1024 → Fin 2816 → EReal)
    (wd : Fin 2816 → Fin 1024 → EReal) (fg : Fin 1024 → EReal) : Fin 1024 → EReal :=
  nrm (res2 (res x a wo) g wg wu wd) fg

section Block

variable (x0 : Vec Ideal S512x1024 .f32) (x1 : Vec Ideal S512x1024 .bf16) (x2 : Vec Ideal S1024x1024 .bf16) (x3 : Vec Ideal S1x1024 .f32)
  (x4 x5 : Vec Ideal S1024x2816 .bf16) (x6 : Vec Ideal S2816x1024 .bf16) (x7 : Vec Ideal S1x1024 .f32)

theorem pay2_at (r : Fin 512) (c : Fin 1024) :
    k0_pay2 x0 x1 x2 (ix2 r c) = res (fun j => x0 (ix2 r j)) (fun j => x1 (ix2 r j)) (fun i j => x2 (ix2 i j)) c := by
  unfold res
  pointwise [k0_pay2]

theorem pay3_at (r : Fin 512) (c : Fin 1024) :
    k0_pay3 x0 x1 x2 x3 (ix2 r c) = nrm (fun j => k0_pay2 x0 x1 x2 (ix2 r j)) (fun j => x3 (ix2 0 j)) c := by
  unfold nrm k0_pay3
  generalize k0_pay2 x0 x1 x2 = w
  pointwise []

theorem pay6_at (v : Vec Ideal S512x1024 .bf16) (w1 w2 : Vec Ideal S1024x256 .bf16) (r : Fin 512) (c : Fin 256) :
    k0_pay6 v w1 w2 (ix2 r c) = Ideal.div (∑ x, v (ix2 r x) * w1 (ix2 x c)) (1 + Ideal.exp (0 - ∑ x, v (ix2 r x) * w1 (ix2 x c))) * ∑ x, v (ix2 r x) * w2 (ix2 x c) := by
  pointwise [k0_pay6]

theorem act_at (v : Vec Ideal S512x1024 .bf16) (r : Fin 512) (c : Fin 2816) :
    act v x4 x5 (ix2 r c) = gate (fun j => v (ix2 r j)) (fun i j => x4 (ix2 i j)) (fun i j => x5 (ix2 i j)) c := by
  have hw : ∀ (x : Vec Ideal S1024x2816 .bf16) (k : Fin 1024),
      win (s := S1024x2816) (by decide) S1024x256.size ![0, 256 * (c.val / 256)] x (ix2 k ⟨c.val % 256, Nat.mod_lt _ (by decide)⟩) = x (ix2 k c) := by
    intro x k
    refine congrArg x (funext (Fin.forall_fin_two.mpr ⟨Fin.ext ?_, Fin.ext ?_⟩))
    · show (0 + k.val) % 1024 = k.val
      omega
    · show (256 * (c.val / 256) + c.val % 256) % 2816 = c.val
      omega
  have hi : (fun a => ⟨((ix2 r c : S512x2816.Idx) a).val % S512x256.size a, Nat.mod_lt _ ((by decide : ∀ a, 0 < S512x256.size a) a)⟩ : S512x256.Idx)
      = ix2 r ⟨c.val % 256, Nat.mod_lt _ (by decide)⟩ := by
    refine funext (Fin.forall_fin_two.mpr ⟨Fin.ext ?_, Fin.ext ?_⟩)
    · show r.val % 512 = r.val
      omega
    · rfl
  unfold act gate
  rw [hi]
  unfold cols
  refine (pay6_at v _ _ r _).trans ?_
  simp only [show (((ix2 r c : S512x2816.Idx) 1).val) = c.val from rfl, hw]

theorem pay22_at (w : FVec Ideal S512x1024 .f32) (v : Vec Ideal S512x2816 .bf16) (r : Fin 512) (c : Fin 1024) :
    k0_pay22 w v x6 (ix2 r c) = w (ix2 r c) + Ideal.ofBits FTy.f32 1056964608#32 * ∑ x, v (ix2 r x) * x6 (ix2 x c) := by
  pointwise [k0_pay22]

theorem pay24_at (w : FVec Ideal S512x1024 .f32) (v : Vec Ideal S512x2816 .bf16) (r : Fin 512) (c : Fin 1024) :
    k0_pay24 w v x6 (ix2 r c) = k0_pay22 w v x6 (ix2 r c) * k0_pay22 w v x6 (ix2 r c) := by
  unfold k0_pay24
  generalize k0_pay22 w v x6 = u
  pointwise []

theorem pay1_at (a : FVec Ideal S512x1024 .f32) (d : FVec Ideal S512x1024 .f32) (r : Fin 512) (c : Fin 1024) :
    k0_pay1 a (k0_pay23 x7) d (ix2 r c) = a (ix2 r c) * Ideal.rsqrt (Ideal.div (∑ x, d (ix2 r x)) (Ideal.ofBits FTy.f32 1149239296#32) + Ideal.ofBits FTy.f32 897988541#32) * x7 (ix2 0 c) := by
  pointwise [k0_pay1, k0_pay23]

/-- A row of the block the body leaves. -/
theorem blockOut_at (r : Fin 512) (c : Fin 1024) :
    blockOut x0 x1 x2 x3 x4 x5 x6 x7 (ix2 r c)
      = rowOut (fun j => x0 (ix2 r j)) (fun j => x1 (ix2 r j)) (fun i j => x2 (ix2 i j)) (fun j => x3 (ix2 0 j)) (fun i j => x4 (ix2 i j)) (fun i j => x5 (ix2 i j))
          (fun i j => x6 (ix2 i j)) (fun j => x7 (ix2 0 j)) c := by
  unfold blockOut
  have h22 : ∀ k, k0_pay22 (k0_pay2 x0 x1 x2) (act (k0_pay3 x0 x1 x2 x3) x4 x5) x6 (ix2 r k)
      = res2 (res (fun j => x0 (ix2 r j)) (fun j => x1 (ix2 r j)) (fun i j => x2 (ix2 i j))) (fun j => x3 (ix2 0 j)) (fun i j => x4 (ix2 i j)) (fun i j => x5 (ix2 i j))
          (fun i j => x6 (ix2 i j)) k := by
    intro k
    refine (pay22_at x6 _ _ r k).trans ?_
    unfold res2
    simp only [act_at, pay3_at, pay2_at]
  refine (pay1_at x7 _ _ r c).trans ?_
  unfold rowOut nrm
  simp only [pay24_at, h22]

end Block

/-- Dividing before or after the gate: the divisor is at least one. -/
theorem div_silu (g : EReal) : Ideal.div g (1 + Ideal.exp (0 - g)) = g * Ideal.div 1 (1 + Ideal.exp (-g)) := by
  have h0 : ∀ z, (0 : EReal) ≤ Ideal.exp z := by
    intro z
    induction z using EReal.rec with
    | bot => simp
    | top => simp
    | coe r => simpa using (Real.exp_pos r).le
  have h1 : (1 + Ideal.exp (-g) : EReal) ≠ 0 := by
    have : (1 : EReal) ≤ 1 + Ideal.exp (-g) := le_add_of_nonneg_right (h0 _)
    intro h
    rw [h] at this
    exact absurd this (not_le.mpr zero_lt_one)
  rw [zero_sub, Ideal.div, Ideal.div, if_neg h1, if_neg h1, one_mul]

section Ref

open Cert.Reference2Ideal.Read

variable (x0 : Vec Ideal Cert.Reference2Ideal.S16384x1024 .f32) (x1 : Vec Ideal Cert.Reference2Ideal.S16384x1024 .bf16) (x2 : Vec Ideal Cert.Reference2Ideal.S1024x1024 .f32)
  (x3 : Vec Ideal Cert.Reference2Ideal.S1024 .f32) (x4 x5 : Vec Ideal Cert.Reference2Ideal.S1024x2816 .f32) (x6 : Vec Ideal Cert.Reference2Ideal.S2816x1024 .f32)
  (x7 : Vec Ideal Cert.Reference2Ideal.S1024 .f32)

theorem v2_at (r : Fin 16384) (c : Fin 1024) :
    val_main_v2 (F := Ideal) x0 x1 x2 (ix2 r c) = res (fun j => x0 (ix2 r j)) (fun j => x1 (ix2 r j)) (fun i j => x2 (ix2 i j)) c := by
  unfold res
  pointwise [val_main_v2, val_main_v1, val_main_v0]

theorem v15_at (r : Fin 16384) (c : Fin 1024) :
    val_main_v15 (F := Ideal) x0 x1 x2 x3 (ix2 r c) = nrm (fun j => val_main_v2 (F := Ideal) x0 x1 x2 (ix2 r j)) (fun j => x3 (ix1 j)) c := by
  unfold nrm val_main_v15 val_main_v12 val_main_v11 val_main_v10 val_main_v9 val_main_v7 val_main_v5 val_main_v4 val_main_v3
  generalize val_main_v2 (F := Ideal) x0 x1 x2 = w
  pointwise [val_main_v14, val_main_v13, val_main_v8, val_main_v6, val_main_cst, val_main_cst_0, val_main_cst_1]

theorem v16_at (r : Fin 16384) (c : Fin 2816) :
    val_main_v16 (F := Ideal) x0 x1 x2 x3 x4 (ix2 r c) = ∑ x, val_main_v15 (F := Ideal) x0 x1 x2 x3 (ix2 r x) * x4 (ix2 x c) := by
  unfold val_main_v16
  generalize val_main_v15 (F := Ideal) x0 x1 x2 x3 = w
  pointwise []

theorem v18_at (r : Fin 16384) (c : Fin 2816) :
    val_main_v18 (F := Ideal) x0 x1 x2 x3 x5 (ix2 r c) = ∑ x, val_main_v15 (F := Ideal) x0 x1 x2 x3 (ix2 r x) * x5 (ix2 x c) := by
  unfold val_main_v18
  generalize val_main_v15 (F := Ideal) x0 x1 x2 x3 = w
  pointwise []

theorem v19_at (r : Fin 16384) (c : Fin 2816) :
    val_main_v19 (F := Ideal) x0 x1 x2 x3 x4 x5 (ix2 r c)
      = gate (fun j => val_main_v15 (F := Ideal) x0 x1 x2 x3 (ix2 r j)) (fun i j => x4 (ix2 i j)) (fun i j => x5 (ix2 i j)) c := by
  unfold gate
  rw [← v16_at, ← v18_at, div_silu]
  unfold val_main_v19 val_main_v17 val_main_call0_v5 val_main_call0_v3 val_main_call0_v1 val_main_call0_v0
  generalize val_main_v16 (F := Ideal) x0 x1 x2 x3 x4 = g
  generalize val_main_v18 (F := Ideal) x0 x1 x2 x3 x5 = u
  pointwise [val_main_call0_v4, val_main_call0_v2, val_main_call0_cst, val_main_call0_cst_0]

theorem v23_at (r : Fin 16384) (c : Fin 1024) :
    val_main_v23 (F := Ideal) x0 x1 x2 x3 x4 x5 x6 (ix2 r c)
      = val_main_v2 (F := Ideal) x0 x1 x2 (ix2 r c) + Ideal.ofBits FTy.f32 1056964608#32 * ∑ x, val_main_v19 (F := Ideal) x0 x1 x2 x3 x4 x5 (ix2 r x) * x6 (ix2 x c) := by
  unfold val_main_v23 val_main_v22 val_main_v20
  generalize val_main_v2 (F := Ideal) x0 x1 x2 = w
  generalize val_main_v19 (F := Ideal) x0 x1 x2 x3 x4 x5 = u
  pointwise [val_main_v21, val_main_cst_2]

theorem v36_at (r : Fin 16384) (c : Fin 1024) :
    val_main_v36 (F := Ideal) x0 x1 x2 x3 x4 x5 x6 x7 (ix2 r c)
      = nrm (fun j => val_main_v23 (F := Ideal) x0 x1 x2 x3 x4 x5 x6 (ix2 r j)) (fun j => x7 (ix1 j)) c := by
  unfold nrm val_main_v36 val_main_v33 val_main_v32 val_main_v31 val_main_v30 val_main_v28 val_main_v26 val_main_v25 val_main_v24
  generalize val_main_v23 (F := Ideal) x0 x1 x2 x3 x4 x5 x6 = w
  pointwise [val_main_v35, val_main_v34, val_main_v29, val_main_v27, val_main_cst_3, val_main_cst_4, val_main_cst_5]

/-- A row of the reference. -/
theorem ref_at (r : Fin 16384) (c : Fin 1024) :
    val_main_v36 (F := Ideal) x0 x1 x2 x3 x4 x5 x6 x7 (ix2 r c)
      = rowOut (fun j => x0 (ix2 r j)) (fun j => x1 (ix2 r j)) (fun i j => x2 (ix2 i j)) (fun j => x3 (ix1 j)) (fun i j => x4 (ix2 i j)) (fun i j => x5 (ix2 i j))
          (fun i j => x6 (ix2 i j)) (fun j => x7 (ix1 j)) c := by
  refine (v36_at x0 x1 x2 x3 x4 x5 x6 x7 r c).trans ?_
  unfold rowOut res2
  simp only [v23_at, v19_at, v15_at, v2_at]

end Ref

end Cert.Kernel2Ideal.Ffn

end
-- ==== Proof.Ffn.Value.lean ====
module

public import proofs.«01_k».proof.Proof.Ffn.Math
public import proofs.«01_k».proof.Proof.Gen.Reference2Ideal.Run
public import proofs.«01_k».proof.Defs
public import Idealize.ShloMosaic.Lib.Pipeline.ValueKit
public import Idealize.ShloMosaic.Lib.Claim

/-! # The feed-forward call's result array is the reference's -/

@[expose] public section

set_option maxRecDepth 16384

noncomputable section

namespace Cert.Kernel2Ideal.Ffn

open Idealize.ShloMosaic Idealize.ShloMosaic.TcCoe Idealize.ShloMosaic.Tactic Idealize.SL.Sem
open Idealize.ShloMosaic.Pipeline (Dat Cfg Window BodyObligation cellOf)
open Cert.Kernel2Ideal.Gen Cert.Shared Cert.Reference2Ideal.Read

/-- Where every window's block lies. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![t.val, 0] ∧ t.val < 32 :=
  (by decide +kernel : ∀ t : Fin grid0.N, _)

/-- A row's value depends only on the row and the weights. -/
theorem rowOut_congr {x x' a a' : Fin 1024 → EReal} {wo wo' : Fin 1024 → Fin 1024 → EReal} {g g' : Fin 1024 → EReal} {wg wg' wu wu' : Fin 1024 → Fin 2816 → EReal}
    {wd wd' : Fin 2816 → Fin 1024 → EReal} {fg fg' : Fin 1024 → EReal} (c : Fin 1024)
    (h0 : ∀ j, x j = x' j) (h1 : ∀ j, a j = a' j) (h2 : ∀ i j, wo i j = wo' i j) (h3 : ∀ j, g j = g' j) (h4 : ∀ i j, wg i j = wg' i j) (h5 : ∀ i j, wu i j = wu' i j)
    (h6 : ∀ i j, wd i j = wd' i j) (h7 : ∀ j, fg j = fg' j) : rowOut x a wo g wg wu wd fg c = rowOut x' a' wo' g' wg' wu' wd' fg' c := by
  obtain rfl : x = x' := funext h0
  obtain rfl : a = a' := funext h1
  obtain rfl : wo = wo' := funext fun i => funext (h2 i)
  obtain rfl : g = g' := funext h3
  obtain rfl : wg = wg' := funext fun i => funext (h4 i)
  obtain rfl : wu = wu' := funext fun i => funext (h5 i)
  obtain rfl : wd = wd' := funext fun i => funext (h6 i)
  obtain rfl : fg = fg' := funext h7
  rfl

variable (m : (ℓ : Loc nD τ sig) → Buf (Elt Ideal) ℓ)

/-- One element of one point's block. -/
theorem point (c : Dev nD) (t : Fin cfg0.N) (y : S512x1024.Idx) (r : Fin 16384) (hr : r.val = t.val * 512 + (y 0).val) (k : Fin 1024) (hk : k.val = (y 1).val) :
    blockOut (iblk m c 0 t) (iblk m c 1 t) (iblk m c 2 t) (iblk m c 3 t) (iblk m c 4 t) (iblk m c 5 t) (iblk m c 6 t) (iblk m c 7 t) y
      = val_main_v36 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (ix2 r k) := by
  have hy : y = ix2 (y 0) (y 1) := funext (Fin.forall_fin_two.mpr ⟨rfl, rfl⟩)
  have hk' : k = y 1 := Fin.ext hk
  subst hk'
  refine (congrArg _ hy).trans ((blockOut_at _ _ _ _ _ _ _ _ (y 0) (y 1)).trans (Eq.trans ?_ (ref_at _ _ _ _ _ _ _ _ r (y 1)).symm))
  refine rowOut_congr _ (fun j => ?_) (fun j => ?_) (fun i j => ?_) (fun j => ?_) (fun i j => ?_) (fun i j => ?_) (fun i j => ?_) (fun j => ?_)
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]

/-- The result array. -/
theorem final (c : Dev nD) : (dats m 0 c).arrAt 8 cfg0.N
    = val_main_v36 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) := by
  refine (dats m 0 c).arrAt_eq_of_covers 8 _ (by decide +kernel) fun t _ y => ?_
  blk_simp
  rw [after0_8]
  unfold outsAt0
  rw [out_eq]
  have h32 : t.val < 32 := (idx t).2.2.2.2.2.2.2.2.2
  have hy0 : (y 0).val < 512 := (y 0).isLt
  refine (point m c t y ⟨t.val * 512 + (y 0).val, by omega⟩ rfl (y 1) rfl).trans (congrArg _ ?_)
  blk_ext [idx t]

/-- The feed-forward call and its reference, from equal arguments, give equal results. -/
theorem algebraic : Cert.algebraic_Kernel2Ideal_Reference2Ideal (hKernel2Ideal := Cert.Kernel2Ideal.Gen.facts) (hReference2Ideal := Cert.Reference2Ideal.Gen.facts) := by
  intro m g m' g' _ hagree
  refine ⟨fun c => (dats m 0 c).arrAt 8 cfg0.N, Cert.Kernel2Ideal.Value.run_blocks m g, (θ_run Cert.Reference2Ideal.defs _ _).mono ?_ (Cert.Reference2Ideal.Value.run m' g')⟩
  intro r h c
  obtain ⟨h0, h1, h2, h3, h4, h5, h6, h7⟩ := hagree c
  obtain ⟨hv, hargs⟩ := h c
  refine ⟨hv.trans ?_, hargs⟩
  rw [val_main_v36_eq m' c]
  refine Eq.trans ?_ (final m c).symm
  exact (congr (congr (congr (congr (congr (congr (congr (congrArg (val_main_v36 (F := Ideal)) h0) h1) h2) h3) h4) h5) h6) h7)

end Cert.Kernel2Ideal.Ffn

end
-- ==== Proof.Ffn3.Block.lean ====
module

public import proofs.«01_k».proof.Proof.Gen.Kernel3Ideal.Value
public import proofs.«01_k».proof.Proof.Ffn.Block

/-! # What one point of the feed-forward call without output projection or final norm computes -/

@[expose] public section

set_option maxRecDepth 16384

noncomputable section

namespace Cert.Kernel3Ideal.Ffn

open Idealize.ShloMosaic Idealize.ShloMosaic.TcCoe Idealize.ShloMosaic.Tactic
open Cert.Kernel3Ideal.Gen Cert.Shared
open Cert.Kernel2Ideal.Ffn (act read_act cols_of)

variable {F : FTy → Type} [FloatOps F]

/-- What the body leaves in the output's block. -/
def blockOut (x0 : Vec F S512x1024 .f32) (x1 : Vec F S1x1024 .f32) (x2 : Vec F S1024x2816 .bf16) (x3 : Vec F S1024x2816 .bf16) (x4 : Vec F S2816x1024 .bf16) : Vec F S512x1024 .f32 :=
  k0_pay3 x0 (act (k0_pay4 x0 x1) x2 x3) x4

theorem close_out {y0 x0 : Vec F S512x1024 .f32} {y4 x4 : Vec F S2816x1024 .bf16} {x1 : Vec F S1x1024 .f32} {x2 x3 : Vec F S1024x2816 .bf16}
    {A : Vec F S512x2816 .bf16} (h0 : y0 = x0) (h4 : y4 = x4) (hA : A = act (k0_pay4 x0 x1) x2 x3) :
    k0_pay3 y0 A y4 = blockOut x0 x1 x2 x3 x4 := by
  subst h0 h4 hA; rfl

theorem norm_eq {y0 x0 : Vec F S512x1024 .f32} {y1 x1 : Vec F S1x1024 .f32}
    (h0 : y0 = x0) (h1 : y1 = x1) : k0_pay4 y0 y1 = k0_pay4 x0 x1 := by
  subst h0 h1; rfl

set_option maxHeartbeats 600000 in
/-- What the run leaves in the output's block is the block computed. -/
theorem out_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x2816 .bf16) (harg8 : arg8.IsWhole)
    (x0 : Vec F S512x1024 .f32) (x1 : Vec F S1x1024 .f32) (x2 : Vec F S1024x2816 .bf16) (x3 : Vec F S1024x2816 .bf16) (x4 : Vec F S2816x1024 .bf16) (x5 : Vec F S1x1024 .f32) : out0_A_6 c i arg1 harg1 arg2 harg2 arg3 harg3 arg4 harg4 arg5 harg5 arg6 harg6 arg7 harg7 arg8 harg8 x0 x1 x2 x3 x4 x5 = blockOut x0 x1 x2 x3 x4 := by
  unfold out0_A_6 kernelRun0_A
  dsimp only
  sl_unfold_run_names
  rw [read_whole]
  have hv := norm_eq (readAt_whole harg1 x0 inb_S512x1024_S512x1024_0_0) (readAt_whole harg2 x1 inb_S1x1024_S1x1024_0_0)
  exact close_out (readAt_whole harg1 x0 _) (readAt_whole harg5 x4 _)
   (read_act arg8.view _ x2 x3 _ _ _ _ _ _ _ _ _ _ _ _
    (cols_of hv (readAt_win harg3 x2 (by decide) _ rfl) (readAt_win harg4 x3 (by decide) _ rfl))
    (cols_of hv (readAt_win harg3 x2 (by decide) _ rfl) (readAt_win harg4 x3 (by decide) _ rfl))
    (cols_of hv (readAt_win harg3 x2 (by decide) _ rfl) (readAt_win harg4 x3 (by decide) _ rfl))
    (cols_of hv (readAt_win harg3 x2 (by decide) _ rfl) (readAt_win harg4 x3 (by decide) _ rfl))
    (cols_of hv (readAt_win harg3 x2 (by decide) _ rfl) (readAt_win harg4 x3 (by decide) _ rfl))
    (cols_of hv (readAt_win harg3 x2 (by decide) _ rfl) (readAt_win harg4 x3 (by decide) _ rfl))
    (cols_of hv (readAt_win harg3 x2 (by decide) _ rfl) (readAt_win harg4 x3 (by decide) _ rfl))
    (cols_of hv (readAt_win harg3 x2 (by decide) _ rfl) (readAt_win harg4 x3 (by decide) _ rfl))
    (cols_of hv (readAt_win harg3 x2 (by decide) _ rfl) (readAt_win harg4 x3 (by decide) _ rfl))
    (cols_of hv (readAt_win harg3 x2 (by decide) _ rfl) (readAt_win harg4 x3 (by decide) _ rfl))
    (cols_of hv (readAt_win harg3 x2 (by decide) _ rfl) (readAt_win harg4 x3 (by decide) _ rfl)))

end Cert.Kernel3Ideal.Ffn

end
-- ==== Proof.Ffn3.Math.lean ====
module

public import proofs.«01_k».proof.Proof.Ffn3.Block
public import proofs.«01_k».proof.Proof.Ffn.Math
public import proofs.«01_k».proof.Proof.Gen.Reference3Ideal.Read
public import Idealize.ShloMosaic.Lib.Pointwise

/-! # The feed-forward call without output projection or final norm and its reference compute the same row -/

@[expose] public section

set_option maxRecDepth 16384

noncomputable section

namespace Cert.Kernel3Ideal.Ffn

open Idealize.ShloMosaic Idealize.ShloMosaic.TcCoe Idealize.ShloMosaic.Tactic
open Cert.Kernel3Ideal.Gen Cert.Shared
open Cert.Kernel2Ideal.Ffn (act act_at nrm gate res res2 div_silu)

section Block

theorem norm_at (x0 : Vec Ideal S512x1024 .f32) (x1 : Vec Ideal S1x1024 .f32) (r : Fin 512) (c : Fin 1024) :
    k0_pay4 x0 x1 (ix2 r c) = nrm (fun j => x0 (ix2 r j)) (fun j => x1 (ix2 0 j)) c := by
  unfold nrm k0_pay4
  pointwise []

theorem fin_at (x4 : Vec Ideal S2816x1024 .bf16) (w : FVec Ideal S512x1024 .f32) (v : Vec Ideal S512x2816 .bf16) (r : Fin 512) (c : Fin 1024) :
    k0_pay3 w v x4 (ix2 r c) = w (ix2 r c) + Ideal.ofBits FTy.f32 1056964608#32 * ∑ x, v (ix2 r x) * x4 (ix2 x c) := by
  pointwise [k0_pay3]

/-- A row of the block the body leaves. -/
theorem blockOut_at (x0 : Vec Ideal S512x1024 .f32) (x1 : Vec Ideal S1x1024 .f32) (x2 : Vec Ideal S1024x2816 .bf16) (x3 : Vec Ideal S1024x2816 .bf16) (x4 : Vec Ideal S2816x1024 .bf16) (r : Fin 512) (c : Fin 1024) :
    blockOut x0 x1 x2 x3 x4 (ix2 r c) = res2 (fun j => x0 (ix2 r j)) (fun j => x1 (ix2 0 j)) (fun i j => x2 (ix2 i j)) (fun i j => x3 (ix2 i j)) (fun i j => x4 (ix2 i j)) c := by
  unfold blockOut
  refine (fin_at x4 _ _ r c).trans ?_
  unfold res2
  simp only [act_at, norm_at]

end Block

section Ref

open Cert.Reference3Ideal.Read

variable (x0 : Vec Ideal Cert.Reference3Ideal.S16384x1024 .f32) (x1 : Vec Ideal Cert.Reference3Ideal.S1024 .f32) (x2 : Vec Ideal Cert.Reference3Ideal.S1024x2816 .f32) (x3 : Vec Ideal Cert.Reference3Ideal.S1024x2816 .f32) (x4 : Vec Ideal Cert.Reference3Ideal.S2816x1024 .f32)

theorem v12_at (r : Fin 16384) (c : Fin 1024) :
    val_main_v12 (F := Ideal) x0 x1 (ix2 r c) = nrm (fun j => x0 (ix2 r j)) (fun j => x1 (ix1 j)) c := by
  unfold nrm val_main_v12 val_main_v9 val_main_v8 val_main_v7 val_main_v6 val_main_v4 val_main_v2 val_main_v1 val_main_v0
  pointwise [val_main_v11, val_main_v10, val_main_v5, val_main_v3, val_main_cst, val_main_cst_0, val_main_cst_1]

theorem v13_at (r : Fin 16384) (c : Fin 2816) :
    val_main_v13 (F := Ideal) x0 x1 x2 (ix2 r c) = ∑ x, val_main_v12 (F := Ideal) x0 x1 (ix2 r x) * x2 (ix2 x c) := by
  unfold val_main_v13
  generalize val_main_v12 (F := Ideal) x0 x1 = w
  pointwise []

theorem v15_at (r : Fin 16384) (c : Fin 2816) :
    val_main_v15 (F := Ideal) x0 x1 x3 (ix2 r c) = ∑ x, val_main_v12 (F := Ideal) x0 x1 (ix2 r x) * x3 (ix2 x c) := by
  unfold val_main_v15
  generalize val_main_v12 (F := Ideal) x0 x1 = w
  pointwise []

theorem v16_at (r : Fin 16384) (c : Fin 2816) :
    val_main_v16 (F := Ideal) x0 x1 x2 x3 (ix2 r c) = gate (fun j => val_main_v12 (F := Ideal) x0 x1 (ix2 r j)) (fun i j => x2 (ix2 i j)) (fun i j => x3 (ix2 i j)) c := by
  unfold gate
  rw [← v13_at, ← v15_at, div_silu]
  unfold val_main_v16 val_main_v14 val_main_call0_v5 val_main_call0_v3 val_main_call0_v1 val_main_call0_v0
  generalize val_main_v13 (F := Ideal) x0 x1 x2 = g
  generalize val_main_v15 (F := Ideal) x0 x1 x3 = u
  pointwise [val_main_call0_v4, val_main_call0_v2, val_main_call0_cst, val_main_call0_cst_0]

theorem v20_at (r : Fin 16384) (c : Fin 1024) :
    val_main_v20 (F := Ideal) x0 x1 x2 x3 x4 (ix2 r c) = x0 (ix2 r c) + Ideal.ofBits FTy.f32 1056964608#32 * ∑ x, val_main_v16 (F := Ideal) x0 x1 x2 x3 (ix2 r x) * x4 (ix2 x c) := by
  unfold val_main_v20 val_main_v19 val_main_v17
  generalize val_main_v16 (F := Ideal) x0 x1 x2 x3 = u
  pointwise [val_main_v18, val_main_cst_2]

/-- A row of the reference. -/
theorem ref_at (r : Fin 16384) (c : Fin 1024) :
    val_main_v20 (F := Ideal) x0 x1 x2 x3 x4 (ix2 r c) = res2 (fun j => x0 (ix2 r j)) (fun j => x1 (ix1 j)) (fun i j => x2 (ix2 i j)) (fun i j => x3 (ix2 i j)) (fun i j => x4 (ix2 i j)) c := by
  refine (v20_at x0 x1 x2 x3 x4 r c).trans ?_
  unfold res2
  simp only [v16_at, v12_at]

end Ref

end Cert.Kernel3Ideal.Ffn

end
-- ==== Proof.Ffn3.Value.lean ====
module

public import proofs.«01_k».proof.Proof.Ffn3.Math
public import proofs.«01_k».proof.Proof.Gen.Reference3Ideal.Run
public import proofs.«01_k».proof.Defs
public import Idealize.ShloMosaic.Lib.Pipeline.ValueKit
public import Idealize.ShloMosaic.Lib.Claim

/-! # The result array of the feed-forward call without output projection or final norm is the reference's -/

@[expose] public section

set_option maxRecDepth 16384

noncomputable section

namespace Cert.Kernel3Ideal.Ffn

open Idealize.ShloMosaic Idealize.ShloMosaic.TcCoe Idealize.ShloMosaic.Tactic Idealize.SL.Sem
open Cert.Kernel3Ideal.Gen Cert.Shared Cert.Reference3Ideal.Read
open Cert.Kernel2Ideal.Ffn (res res2)

/-- Where every window's block lies. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] ∧ t.val < 32 :=
  (by decide +kernel : ∀ t : Fin grid0.N, _)

/-- A row's value depends only on the row and the weights. -/
theorem row_congr {x x' : Fin 1024 → EReal} {g g' : Fin 1024 → EReal} {wg wg' : Fin 1024 → Fin 2816 → EReal} {wu wu' : Fin 1024 → Fin 2816 → EReal} {wd wd' : Fin 2816 → Fin 1024 → EReal} (c : Fin 1024)
    (h0 : ∀ j, x j = x' j) (h1 : ∀ j, g j = g' j) (h2 : ∀ i j, wg i j = wg' i j) (h3 : ∀ i j, wu i j = wu' i j) (h4 : ∀ i j, wd i j = wd' i j) :
    res2 x g wg wu wd c = res2 x' g' wg' wu' wd' c := by
  obtain rfl : x = x' := funext h0
  obtain rfl : g = g' := funext h1
  obtain rfl : wg = wg' := funext fun i => funext (h2 i)
  obtain rfl : wu = wu' := funext fun i => funext (h3 i)
  obtain rfl : wd = wd' := funext fun i => funext (h4 i)
  rfl

variable (m : (ℓ : Loc nD τ sig) → Buf (Elt Ideal) ℓ)

/-- One element of one point's block. -/
theorem point (c : Dev nD) (t : Fin cfg0.N) (y : S512x1024.Idx) (r : Fin 16384) (hr : r.val = t.val * 512 + (y 0).val) (k : Fin 1024) (hk : k.val = (y 1).val) :
    blockOut (iblk m c 0 t) (iblk m c 1 t) (iblk m c 2 t) (iblk m c 3 t) (iblk m c 4 t) y
      = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r k) := by
  have hy : y = ix2 (y 0) (y 1) := funext (Fin.forall_fin_two.mpr ⟨rfl, rfl⟩)
  have hk' : k = y 1 := Fin.ext hk
  subst hk'
  refine (congrArg _ hy).trans ((blockOut_at _ _ _ _ _ (y 0) (y 1)).trans (Eq.trans ?_ (ref_at _ _ _ _ _ r (y 1)).symm))
  refine row_congr _ (fun j => ?_) (fun j => ?_) (fun i j => ?_) (fun i j => ?_) (fun i j => ?_)
  · blk_point [iblk, V, idx t]
  · blk_point [iblk, V, idx t]
  · blk_point [iblk, V, idx t]
  · blk_point [iblk, V, idx t]
  · blk_point [iblk, V, idx t]

/-- The result array. -/
theorem final (c : Dev nD) : (dats m 0 c).arrAt 6 cfg0.N
    = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  unfold outsAt0
  rw [out_eq]
  have h32 : t.val < 32 := (idx t).2.2.2.2.2.2.2
  have hy0 : (y 0).val < 512 := (y 0).isLt
  refine (point m c t y ⟨t.val * 512 + (y 0).val, by omega⟩ rfl (y 1) rfl).trans (congrArg _ ?_)
  blk_ext [idx t]

/-- The call and its reference, from equal arguments, give equal results. -/
theorem algebraic : Cert.algebraic_Kernel3Ideal_Reference3Ideal (hKernel3Ideal := Cert.Kernel3Ideal.Gen.facts) (hReference3Ideal := Cert.Reference3Ideal.Gen.facts) := by
  intro m g m' g' _ hagree
  refine ⟨fun c => (dats m 0 c).arrAt 6 cfg0.N, Cert.Kernel3Ideal.Value.run_blocks m g, (θ_run Cert.Reference3Ideal.defs _ _).mono ?_ (Cert.Reference3Ideal.Value.run m' g')⟩
  intro r h c
  obtain ⟨h0, h1, h2, h3, h4, h5⟩ := hagree c
  obtain ⟨hv, hargs⟩ := h c
  refine ⟨(hv.trans (val_main_v20_eq _ _ _ _ _)).trans (Eq.trans ?_ (final m c).symm), hargs⟩
  exact congr (congr (congr (congr (congrArg (val_main_v20 (F := Ideal)) h0) h1) h2) h3) h4

end Cert.Kernel3Ideal.Ffn

end
-- ==== Proof.Ffn4.Block.lean ====
module

public import proofs.«01_k».proof.Proof.Gen.Kernel4Ideal.Value
public import proofs.«01_k».proof.Proof.Ffn.Block

/-! # What one point of the feed-forward call with output projection, without final norm computes -/

@[expose] public section

set_option maxRecDepth 16384

noncomputable section

namespace Cert.Kernel4Ideal.Ffn

open Idealize.ShloMosaic Idealize.ShloMosaic.TcCoe Idealize.ShloMosaic.Tactic
open Cert.Kernel4Ideal.Gen Cert.Shared
open Cert.Kernel2Ideal.Ffn (act read_act cols_of)

variable {F : FTy → Type} [FloatOps F]

/-- What the body leaves in the output's block. -/
def blockOut (x0 : Vec F S512x1024 .f32) (x1 : Vec F S512x1024 .bf16) (x2 : Vec F S1024x1024 .bf16) (x3 : Vec F S1x1024 .f32) (x4 : Vec F S1024x2816 .bf16) (x5 : Vec F S1024x2816 .bf16) (x6 : Vec F S2816x1024 .bf16) : Vec F S512x1024 .f32 :=
  k0_pay21 (k0_pay1 x0 x1 x2) (act (k0_pay2 x0 x1 x2 x3) x4 x5) x6

theorem close_out {y0 x0 : Vec F S512x1024 .f32} {y1 x1 : Vec F S512x1024 .bf16} {y2 x2 : Vec F S1024x1024 .bf16} {y6 x6 : Vec F S2816x1024 .bf16} {x3 : Vec F S1x1024 .f32} {x4 x5 : Vec F S1024x2816 .bf16}
    {A : Vec F S512x2816 .bf16} (h0 : y0 = x0) (h1 : y1 = x1) (h2 : y2 = x2) (h6 : y6 = x6) (hA : A = act (k0_pay2 x0 x1 x2 x3) x4 x5) :
    k0_pay21 (k0_pay1 y0 y1 y2) A y6 = blockOut x0 x1 x2 x3 x4 x5 x6 := by
  subst h0 h1 h2 h6 hA; rfl

theorem norm_eq {y0 x0 : Vec F S512x1024 .f32} {y1 x1 : Vec F S512x1024 .bf16} {y2 x2 : Vec F S1024x1024 .bf16} {y3 x3 : Vec F S1x1024 .f32}
    (h0 : y0 = x0) (h1 : y1 = x1) (h2 : y2 = x2) (h3 : y3 = x3) : k0_pay2 y0 y1 y2 y3 = k0_pay2 x0 x1 x2 x3 := by
  subst h0 h1 h2 h3; rfl

set_option maxHeartbeats 600000 in
/-- What the run leaves in the output's block is the block computed. -/
theorem out_eq (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x2816 .bf16) (harg5 : arg5.IsWhole) (arg6 : Memref sig .tc .vmem S1024x2816 .bf16) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x2816 .bf16) (harg10 : arg10.IsWhole)
    (x0 : Vec F S512x1024 .f32) (x1 : Vec F S512x1024 .bf16) (x2 : Vec F S1024x1024 .bf16) (x3 : Vec F S1x1024 .f32) (x4 : Vec F S1024x2816 .bf16) (x5 : Vec F S1024x2816 .bf16) (x6 : Vec F S2816x1024 .bf16) (x7 : Vec F S1x1024 .f32) : out0_A_8 c i arg1 harg1 arg2 harg2 arg3 harg3 arg4 harg4 arg5 harg5 arg6 harg6 arg7 harg7 arg8 harg8 arg9 harg9 arg10 harg10 x0 x1 x2 x3 x4 x5 x6 x7 = blockOut x0 x1 x2 x3 x4 x5 x6 := by
  unfold out0_A_8 kernelRun0_A
  dsimp only
  sl_unfold_run_names
  rw [read_whole]
  have hv := norm_eq (readAt_whole harg1 x0 inb_S512x1024_S512x1024_0_0) (readAt_whole harg2 x1 inb_S512x1024_S512x1024_0_0) (readAt_whole harg3 x2 inb_S1024x1024_S1024x1024_0_0) (readAt_whole harg4 x3 inb_S1x1024_S1x1024_0_0)
  exact close_out (readAt_whole harg1 x0 _) (readAt_whole harg2 x1 _) (readAt_whole harg3 x2 _) (readAt_whole harg7 x6 _)
   (read_act arg10.view _ x4 x5 _ _ _ _ _ _ _ _ _ _ _ _
    (cols_of hv (readAt_win harg5 x4 (by decide) _ rfl) (readAt_win harg6 x5 (by decide) _ rfl))
    (cols_of hv (readAt_win harg5 x4 (by decide) _ rfl) (readAt_win harg6 x5 (by decide) _ rfl))
    (cols_of hv (readAt_win harg5 x4 (by decide) _ rfl) (readAt_win harg6 x5 (by decide) _ rfl))
    (cols_of hv (readAt_win harg5 x4 (by decide) _ rfl) (readAt_win harg6 x5 (by decide) _ rfl))
    (cols_of hv (readAt_win harg5 x4 (by decide) _ rfl) (readAt_win harg6 x5 (by decide) _ rfl))
    (cols_of hv (readAt_win harg5 x4 (by decide) _ rfl) (readAt_win harg6 x5 (by decide) _ rfl))
    (cols_of hv (readAt_win harg5 x4 (by decide) _ rfl) (readAt_win harg6 x5 (by decide) _ rfl))
    (cols_of hv (readAt_win harg5 x4 (by decide) _ rfl) (readAt_win harg6 x5 (by decide) _ rfl))
    (cols_of hv (readAt_win harg5 x4 (by decide) _ rfl) (readAt_win harg6 x5 (by decide) _ rfl))
    (cols_of hv (readAt_win harg5 x4 (by decide) _ rfl) (readAt_win harg6 x5 (by decide) _ rfl))
    (cols_of hv (readAt_win harg5 x4 (by decide) _ rfl) (readAt_win harg6 x5 (by decide) _ rfl)))

end Cert.Kernel4Ideal.Ffn

end
-- ==== Proof.Ffn4.Math.lean ====
module

public import proofs.«01_k».proof.Proof.Ffn4.Block
public import proofs.«01_k».proof.Proof.Ffn.Math
public import proofs.«01_k».proof.Proof.Gen.Reference4Ideal.Read
public import Idealize.ShloMosaic.Lib.Pointwise

/-! # The feed-forward call with output projection, without final norm and its reference compute the same row -/

@[expose] public section

set_option maxRecDepth 16384

noncomputable section

namespace Cert.Kernel4Ideal.Ffn

open Idealize.ShloMosaic Idealize.ShloMosaic.TcCoe Idealize.ShloMosaic.Tactic
open Cert.Kernel4Ideal.Gen Cert.Shared
open Cert.Kernel2Ideal.Ffn (act act_at nrm gate res res2 div_silu)

section Block

theorem pay1_at (x0 : Vec Ideal S512x1024 .f32) (x1 : Vec Ideal S512x1024 .bf16) (x2 : Vec Ideal S1024x1024 .bf16) (r : Fin 512) (c : Fin 1024) :
    k0_pay1 x0 x1 x2 (ix2 r c) = res (fun j => x0 (ix2 r j)) (fun j => x1 (ix2 r j)) (fun i j => x2 (ix2 i j)) c := by
  unfold res
  pointwise [k0_pay1]

theorem norm_at (x0 : Vec Ideal S512x1024 .f32) (x1 : Vec Ideal S512x1024 .bf16) (x2 : Vec Ideal S1024x1024 .bf16) (x3 : Vec Ideal S1x1024 .f32) (r : Fin 512) (c : Fin 1024) :
    k0_pay2 x0 x1 x2 x3 (ix2 r c) = nrm (fun j => k0_pay1 x0 x1 x2 (ix2 r j)) (fun j => x3 (ix2 0 j)) c := by
  unfold nrm k0_pay2
  generalize k0_pay1 x0 x1 x2 = w
  pointwise []

theorem fin_at (x6 : Vec Ideal S2816x1024 .bf16) (w : FVec Ideal S512x1024 .f32) (v : Vec Ideal S512x2816 .bf16) (r : Fin 512) (c : Fin 1024) :
    k0_pay21 w v x6 (ix2 r c) = w (ix2 r c) + Ideal.ofBits FTy.f32 1056964608#32 * ∑ x, v (ix2 r x) * x6 (ix2 x c) := by
  pointwise [k0_pay21]

/-- A row of the block the body leaves. -/
theorem blockOut_at (x0 : Vec Ideal S512x1024 .f32) (x1 : Vec Ideal S512x1024 .bf16) (x2 : Vec Ideal S1024x1024 .bf16) (x3 : Vec Ideal S1x1024 .f32) (x4 : Vec Ideal S1024x2816 .bf16) (x5 : Vec Ideal S1024x2816 .bf16) (x6 : Vec Ideal S2816x1024 .bf16) (r : Fin 512) (c : Fin 1024) :
    blockOut x0 x1 x2 x3 x4 x5 x6 (ix2 r c) = res2 (res (fun j => x0 (ix2 r j)) (fun j => x1 (ix2 r j)) (fun i j => x2 (ix2 i j))) (fun j => x3 (ix2 0 j)) (fun i j => x4 (ix2 i j)) (fun i j => x5 (ix2 i j)) (fun i j => x6 (ix2 i j)) c := by
  unfold blockOut
  refine (fin_at x6 _ _ r c).trans ?_
  unfold res2
  simp only [act_at, norm_at, pay1_at]

end Block

section Ref

open Cert.Reference4Ideal.Read

variable (x0 : Vec Ideal Cert.Reference4Ideal.S16384x1024 .f32) (x1 : Vec Ideal Cert.Reference4Ideal.S16384x1024 .bf16) (x2 : Vec Ideal Cert.Reference4Ideal.S1024x1024 .f32) (x3 : Vec Ideal Cert.Reference4Ideal.S1024 .f32) (x4 : Vec Ideal Cert.Reference4Ideal.S1024x2816 .f32) (x5 : Vec Ideal Cert.Reference4Ideal.S1024x2816 .f32) (x6 : Vec Ideal Cert.Reference4Ideal.S2816x1024 .f32)

theorem v2_at (r : Fin 16384) (c : Fin 1024) :
    val_main_v2 (F := Ideal) x0 x1 x2 (ix2 r c) = res (fun j => x0 (ix2 r j)) (fun j => x1 (ix2 r j)) (fun i j => x2 (ix2 i j)) c := by
  unfold res
  pointwise [val_main_v2, val_main_v1, val_main_v0]

theorem v15_at (r : Fin 16384) (c : Fin 1024) :
    val_main_v15 (F := Ideal) x0 x1 x2 x3 (ix2 r c) = nrm (fun j => val_main_v2 (F := Ideal) x0 x1 x2 (ix2 r j)) (fun j => x3 (ix1 j)) c := by
  unfold nrm val_main_v15 val_main_v12 val_main_v11 val_main_v10 val_main_v9 val_main_v7 val_main_v5 val_main_v4 val_main_v3
  generalize val_main_v2 (F := Ideal) x0 x1 x2 = w
  pointwise [val_main_v14, val_main_v13, val_main_v8, val_main_v6, val_main_cst, val_main_cst_0, val_main_cst_1]

theorem v16_at (r : Fin 16384) (c : Fin 2816) :
    val_main_v16 (F := Ideal) x0 x1 x2 x3 x4 (ix2 r c) = ∑ x, val_main_v15 (F := Ideal) x0 x1 x2 x3 (ix2 r x) * x4 (ix2 x c) := by
  unfold val_main_v16
  generalize val_main_v15 (F := Ideal) x0 x1 x2 x3 = w
  pointwise []

theorem v18_at (r : Fin 16384) (c : Fin 2816) :
    val_main_v18 (F := Ideal) x0 x1 x2 x3 x5 (ix2 r c) = ∑ x, val_main_v15 (F := Ideal) x0 x1 x2 x3 (ix2 r x) * x5 (ix2 x c) := by
  unfold val_main_v18
  generalize val_main_v15 (F := Ideal) x0 x1 x2 x3 = w
  pointwise []

theorem v19_at (r : Fin 16384) (c : Fin 2816) :
    val_main_v19 (F := Ideal) x0 x1 x2 x3 x4 x5 (ix2 r c) = gate (fun j => val_main_v15 (F := Ideal) x0 x1 x2 x3 (ix2 r j)) (fun i j => x4 (ix2 i j)) (fun i j => x5 (ix2 i j)) c := by
  unfold gate
  rw [← v16_at, ← v18_at, div_silu]
  unfold val_main_v19 val_main_v17 val_main_call0_v5 val_main_call0_v3 val_main_call0_v1 val_main_call0_v0
  generalize val_main_v16 (F := Ideal) x0 x1 x2 x3 x4 = g
  generalize val_main_v18 (F := Ideal) x0 x1 x2 x3 x5 = u
  pointwise [val_main_call0_v4, val_main_call0_v2, val_main_call0_cst, val_main_call0_cst_0]

theorem v23_at (r : Fin 16384) (c : Fin 1024) :
    val_main_v23 (F := Ideal) x0 x1 x2 x3 x4 x5 x6 (ix2 r c) = val_main_v2 (F := Ideal) x0 x1 x2 (ix2 r c) + Ideal.ofBits FTy.f32 1056964608#32 * ∑ x, val_main_v19 (F := Ideal) x0 x1 x2 x3 x4 x5 (ix2 r x) * x6 (ix2 x c) := by
  unfold val_main_v23 val_main_v22 val_main_v20
  generalize val_main_v2 (F := Ideal) x0 x1 x2 = w
  generalize val_main_v19 (F := Ideal) x0 x1 x2 x3 x4 x5 = u
  pointwise [val_main_v21, val_main_cst_2]

/-- A row of the reference. -/
theorem ref_at (r : Fin 16384) (c : Fin 1024) :
    val_main_v23 (F := Ideal) x0 x1 x2 x3 x4 x5 x6 (ix2 r c) = res2 (res (fun j => x0 (ix2 r j)) (fun j => x1 (ix2 r j)) (fun i j => x2 (ix2 i j))) (fun j => x3 (ix1 j)) (fun i j => x4 (ix2 i j)) (fun i j => x5 (ix2 i j)) (fun i j => x6 (ix2 i j)) c := by
  refine (v23_at x0 x1 x2 x3 x4 x5 x6 r c).trans ?_
  unfold res2
  simp only [v19_at, v15_at, v2_at]

end Ref

end Cert.Kernel4Ideal.Ffn

end
-- ==== Proof.Ffn4.Value.lean ====
module

public import proofs.«01_k».proof.Proof.Ffn4.Math
public import proofs.«01_k».proof.Proof.Gen.Reference4Ideal.Run
public import proofs.«01_k».proof.Defs
public import Idealize.ShloMosaic.Lib.Pipeline.ValueKit
public import Idealize.ShloMosaic.Lib.Claim

/-! # The result array of the feed-forward call with output projection, without final norm is the reference's -/

@[expose] public section

set_option maxRecDepth 16384

noncomputable section

namespace Cert.Kernel4Ideal.Ffn

open Idealize.ShloMosaic Idealize.ShloMosaic.TcCoe Idealize.ShloMosaic.Tactic Idealize.SL.Sem
open Cert.Kernel4Ideal.Gen Cert.Shared Cert.Reference4Ideal.Read
open Cert.Kernel2Ideal.Ffn (res res2)

/-- Where every window's block lies. -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![t.val, 0] ∧ t.val < 32 :=
  (by decide +kernel : ∀ t : Fin grid0.N, _)

/-- A row's value depends only on the row and the weights. -/
theorem row_congr {x x' : Fin 1024 → EReal} {a a' : Fin 1024 → EReal} {wo wo' : Fin 1024 → Fin 1024 → EReal} {g g' : Fin 1024 → EReal} {wg wg' : Fin 1024 → Fin 2816 → EReal} {wu wu' : Fin 1024 → Fin 2816 → EReal} {wd wd' : Fin 2816 → Fin 1024 → EReal} (c : Fin 1024)
    (h0 : ∀ j, x j = x' j) (h1 : ∀ j, a j = a' j) (h2 : ∀ i j, wo i j = wo' i j) (h3 : ∀ j, g j = g' j) (h4 : ∀ i j, wg i j = wg' i j) (h5 : ∀ i j, wu i j = wu' i j) (h6 : ∀ i j, wd i j = wd' i j) :
    res2 (res x a wo) g wg wu wd c = res2 (res x' a' wo') g' wg' wu' wd' c := by
  obtain rfl : x = x' := funext h0
  obtain rfl : a = a' := funext h1
  obtain rfl : wo = wo' := funext fun i => funext (h2 i)
  obtain rfl : g = g' := funext h3
  obtain rfl : wg = wg' := funext fun i => funext (h4 i)
  obtain rfl : wu = wu' := funext fun i => funext (h5 i)
  obtain rfl : wd = wd' := funext fun i => funext (h6 i)
  rfl

variable (m : (ℓ : Loc nD τ sig) → Buf (Elt Ideal) ℓ)

/-- One element of one point's block. -/
theorem point (c : Dev nD) (t : Fin cfg0.N) (y : S512x1024.Idx) (r : Fin 16384) (hr : r.val = t.val * 512 + (y 0).val) (k : Fin 1024) (hk : k.val = (y 1).val) :
    blockOut (iblk m c 0 t) (iblk m c 1 t) (iblk m c 2 t) (iblk m c 3 t) (iblk m c 4 t) (iblk m c 5 t) (iblk m c 6 t) y
      = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r k) := by
  have hy : y = ix2 (y 0) (y 1) := funext (Fin.forall_fin_two.mpr ⟨rfl, rfl⟩)
  have hk' : k = y 1 := Fin.ext hk
  subst hk'
  refine (congrArg _ hy).trans ((blockOut_at _ _ _ _ _ _ _ (y 0) (y 1)).trans (Eq.trans ?_ (ref_at _ _ _ _ _ _ _ r (y 1)).symm))
  refine row_congr _ (fun j => ?_) (fun j => ?_) (fun i j => ?_) (fun j => ?_) (fun i j => ?_) (fun i j => ?_) (fun i j => ?_)
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]

/-- The result array. -/
theorem final (c : Dev nD) : (dats m 0 c).arrAt 8 cfg0.N
    = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  unfold outsAt0
  rw [out_eq]
  have h32 : t.val < 32 := (idx t).2.2.2.2.2.2.2.2.2
  have hy0 : (y 0).val < 512 := (y 0).isLt
  refine (point m c t y ⟨t.val * 512 + (y 0).val, by omega⟩ rfl (y 1) rfl).trans (congrArg _ ?_)
  blk_ext [idx t]

/-- The call and its reference, from equal arguments, give equal results. -/
theorem algebraic : Cert.algebraic_Kernel4Ideal_Reference4Ideal (hKernel4Ideal := Cert.Kernel4Ideal.Gen.facts) (hReference4Ideal := Cert.Reference4Ideal.Gen.facts) := by
  intro m g m' g' _ hagree
  refine ⟨fun c => (dats m 0 c).arrAt 8 cfg0.N, Cert.Kernel4Ideal.Value.run_blocks m g, (θ_run Cert.Reference4Ideal.defs _ _).mono ?_ (Cert.Reference4Ideal.Value.run m' g')⟩
  intro r h c
  obtain ⟨h0, h1, h2, h3, h4, h5, h6, h7⟩ := hagree c
  obtain ⟨hv, hargs⟩ := h c
  refine ⟨hv.trans ?_, hargs⟩
  rw [val_main_v23_eq m' c]
  refine Eq.trans ?_ (final m c).symm
  exact congr (congr (congr (congr (congr (congr (congrArg (val_main_v23 (F := Ideal)) h0) h1) h2) h3) h4) h5) h6

end Cert.Kernel4Ideal.Ffn

end
-- ==== Proof.Proj5.Math.lean ====
module

public import proofs.«01_k».proof.Proof.Gen.Kernel5Ideal.Value
public import proofs.«01_k».proof.Proof.Ffn.Math
public import proofs.«01_k».proof.Proof.Gen.Reference5Ideal.Read
public import Idealize.ShloMosaic.Lib.Pointwise

/-! # The projections before the neighbourhood attention, entry by entry -/

@[expose] public section

set_option maxRecDepth 16384

noncomputable section

namespace Cert.Kernel5Ideal.Proj

open Idealize.ShloMosaic Idealize.ShloMosaic.TcCoe Idealize.ShloMosaic.Tactic
open Cert.Kernel5Ideal.Gen
open Cert.Kernel2Ideal.Ffn (nrm)

/-- A row times a column. -/
def lin (v w : Fin 1024 → EReal) : EReal := ∑ x, v x * w x

/-- It depends only on the row, the gain and the column. -/
theorem lin_congr {x x' g g' w w' : Fin 1024 → EReal} (h0 : ∀ j, x j = x' j) (h1 : ∀ j, g j = g' j) (h2 : ∀ j, w j = w' j) :
    lin (nrm x g) w = lin (nrm x' g') w' := by
  obtain rfl : x = x' := funext h0
  obtain rfl : g = g' := funext h1
  obtain rfl : w = w' := funext h2
  rfl

section Block

variable (x0 : Vec Ideal S512x1024 .f32) (x1 : Vec Ideal S1x1024 .f32) (w : Vec Ideal S1024x1024 .bf16)

theorem norm_at (r : Fin 512) (c : Fin 1024) : k0_pay3 x0 x1 (ix2 r c) = nrm (fun j => x0 (ix2 r j)) (fun j => x1 (ix2 0 j)) c := by
  unfold nrm k0_pay3
  pointwise []

/-- A query of a block, -/
theorem q_at (r : Fin 512) (c : Fin 1024) :
    k0_pay4 x0 x1 w (ix2 r c) = lin (nrm (fun j => x0 (ix2 r j)) (fun j => x1 (ix2 0 j))) (fun x => w (ix2 x c)) * Ideal.ofBits FTy.f32 1040187392#32 := by
  unfold lin
  simp only [← norm_at]
  unfold k0_pay4
  generalize k0_pay3 x0 x1 = v
  pointwise []

/-- a key, -/
theorem k_at (r : Fin 512) (c : Fin 1024) : k0_pay5 x0 x1 w (ix2 r c) = lin (nrm (fun j => x0 (ix2 r j)) (fun j => x1 (ix2 0 j))) (fun x => w (ix2 x c)) := by
  unfold lin
  simp only [← norm_at]
  unfold k0_pay5
  generalize k0_pay3 x0 x1 = v
  pointwise []

/-- and a value: columns are rows there. -/
theorem v_at (c : Fin 1024) (r : Fin 512) : k0_pay6 x0 x1 w (ix2 c r) = lin (nrm (fun j => x0 (ix2 r j)) (fun j => x1 (ix2 0 j))) (fun x => w (ix2 c x)) := by
  have e : k0_pay6 x0 x1 w (ix2 c r) = ∑ x, w (ix2 c x) * k0_pay3 x0 x1 (ix2 r x) := by
    unfold k0_pay6
    generalize k0_pay3 x0 x1 = v
    pointwise []
  rw [e]
  unfold lin
  simp only [norm_at]
  exact Finset.sum_congr rfl fun x _ => mul_comm _ _

end Block

section Ref

open Cert.Reference5Ideal.Read

variable (x0 : Vec Ideal Cert.Reference5Ideal.S16384x1024 .f32) (x1 : Vec Ideal Cert.Reference5Ideal.S1024 .f32) (x2 : Vec Ideal Cert.Reference5Ideal.S1024x3072 .f32)

theorem v12_at (r : Fin 16384) (c : Fin 1024) : val_main_v12 (F := Ideal) x0 x1 (ix2 r c) = nrm (fun j => x0 (ix2 r j)) (fun j => x1 (ix1 j)) c := by
  unfold nrm val_main_v12 val_main_v9 val_main_v8 val_main_v7 val_main_v6 val_main_v4 val_main_v2 val_main_v1 val_main_v0
  pointwise [val_main_v11, val_main_v10, val_main_v5, val_main_v3, val_main_cst, val_main_cst_0, val_main_cst_1]

theorem v13_at (r : Fin 16384) (c : Fin 3072) : val_main_v13 (F := Ideal) x0 x1 x2 (ix2 r c) = lin (nrm (fun j => x0 (ix2 r j)) (fun j => x1 (ix1 j))) (fun x => x2 (ix2 x c)) := by
  unfold lin
  simp only [← v12_at]
  unfold val_main_v13
  generalize val_main_v12 (F := Ideal) x0 x1 = w
  pointwise []

/-- A query of the reference, -/
theorem vq_at (r : Fin 16384) (c : Fin 1024) (d : Fin 3072) (hd : d.val = c.val) :
    val_main_v19 (F := Ideal) x0 x1 x2 (ix2 r c) = lin (nrm (fun j => x0 (ix2 r j)) (fun j => x1 (ix1 j))) (fun x => x2 (ix2 x d)) * Ideal.ofBits FTy.f32 1040187392#32 := by
  refine Eq.trans ?_ (congrArg (fun z => z * Ideal.ofBits FTy.f32 1040187392#32) (v13_at x0 x1 x2 r d))
  refine congrArg₂ (fun a b => a * b) ((val_main_v14_apply x0 x1 x2 (ix2 r c)).trans (congrArg _ ?_)) ((val_main_v15_apply (F := Ideal) (ix2 r c)).trans rfl)
  exact funext (Fin.forall_fin_two.mpr ⟨rfl, Fin.ext hd.symm⟩)

/-- a key, -/
theorem vk_at (r : Fin 16384) (c : Fin 1024) (d : Fin 3072) (hd : d.val = 1024 + c.val) :
    val_main_v20 (F := Ideal) x0 x1 x2 (ix2 r c) = lin (nrm (fun j => x0 (ix2 r j)) (fun j => x1 (ix1 j))) (fun x => x2 (ix2 x d)) := by
  refine Eq.trans ((val_main_v17_apply x0 x1 x2 (ix2 r c)).trans (congrArg _ ?_)) (v13_at x0 x1 x2 r d)
  exact funext (Fin.forall_fin_two.mpr ⟨rfl, Fin.ext hd.symm⟩)

/-- and a value. -/
theorem vv_at (b : Fin 64) (c : Fin 1024) (j : Fin 256) (r : Fin 16384) (hr : r.val = b.val * 256 + j.val) (d : Fin 3072) (hd : d.val = 2048 + c.val) :
    val_main_v23 (F := Ideal) x0 x1 x2 (ix3 b c j) = lin (nrm (fun j => x0 (ix2 r j)) (fun j => x1 (ix1 j))) (fun x => x2 (ix2 x d)) := by
  refine Eq.trans ((val_main_v23_apply x0 x1 x2 (ix3 b c j)).trans ((val_main_v22_apply x0 x1 x2 _).trans ((val_main_v18_apply x0 x1 x2 _).trans (congrArg _ ?_)))) (v13_at x0 x1 x2 r d)
  have hj := j.isLt
  have hc := c.isLt
  refine funext (Fin.forall_fin_two.mpr ⟨Fin.ext ?_, Fin.ext ?_⟩)
  · show ((b.val * 256 + j.val) * 1024 + c.val) / 1024 = r.val
    omega
  · show 2048 + ((b.val * 256 + j.val) * 1024 + c.val) % 1024 = d.val
    omega

end Ref

end Cert.Kernel5Ideal.Proj

end
-- ==== Proof.Proj5.Value.lean ====
module

public import proofs.«01_k».proof.Proof.Proj5.Math
public import proofs.«01_k».proof.Proof.Gen.Reference5Ideal.Run
public import proofs.«01_k».proof.Defs
public import Idealize.ShloMosaic.Lib.Pipeline.ValueKit
public import Idealize.ShloMosaic.Lib.Claim

/-! # The projections before the neighbourhood attention are the reference's -/

@[expose] public section

set_option maxRecDepth 16384

noncomputable section

namespace Cert.Kernel5Ideal.Proj

open Idealize.ShloMosaic Idealize.ShloMosaic.TcCoe Idealize.ShloMosaic.Tactic Idealize.SL.Sem
open Cert.Kernel5Ideal.Gen Cert.Reference5Ideal.Read
open Cert.Kernel2Ideal.Ffn (nrm)

/-- Where every window's block lies. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0, 0] ∧ t.val < 32 :=
  (by decide +kernel : ∀ t : Fin grid0.N, _)

/-! ## What the body leaves in its three blocks -/

theorem zeros : ∀ a : Fin 2, (![0, 0] : Fin 2 → ℕ) a = 0 := (Fin.forall_fin_two.mpr ⟨rfl, rfl⟩)

theorem ld_x (x : Vec Ideal S512x1024 .f32) : View.ld x r0_0 = x := View.ld_unit_lit (S := S512x1024) _ x zeros
theorem ld_g (x : Vec Ideal S1x1024 .f32) : View.ld x r0_1 = x := View.ld_unit_lit (S := S1x1024) _ x zeros
theorem ld_w (x : Vec Ideal S1024x1024 .bf16) : View.ld x r0_2 = x := View.ld_unit_lit (S := S1024x1024) _ x zeros

theorem q_out (x0 : Vec Ideal S512x1024 .f32) (x1 : Vec Ideal S1x1024 .f32) (x2 x3 x4 : Vec Ideal S1024x1024 .bf16) : out0_5 x0 x1 x2 x3 x4 = k0_pay4 x0 x1 x2 := by
  unfold out0_5
  rw [ld_x, ld_g, ld_w]
  exact View.canon_cons_unit_lit (S := S512x1024) _ _ _ zeros

theorem k_out (x0 : Vec Ideal S512x1024 .f32) (x1 : Vec Ideal S1x1024 .f32) (x2 x3 x4 : Vec Ideal S1024x1024 .bf16) : out0_6 x0 x1 x2 x3 x4 = k0_pay5 x0 x1 x3 := by
  unfold out0_6
  rw [ld_x, ld_g, ld_w]
  exact View.canon_cons_unit_lit (S := S512x1024) _ _ _ zeros

theorem v_out (x0 : Vec Ideal S512x1024 .f32) (x1 : Vec Ideal S1x1024 .f32) (x2 x3 x4 : Vec Ideal S1024x1024 .bf16) : out0_7 x0 x1 x2 x3 x4 = Value.E7 x0 x1 x4 := by
  unfold out0_7
  rw [ld_x, ld_g, ld_w]
  exact funext fun y => Value.canon7_eq x0 x1 x4 y

variable (m : (ℓ : Loc nD τ sig) → Buf (Elt Ideal) ℓ)

/-! ## One element of one point's blocks -/

theorem q_point (c : Dev nD) (t : Fin cfg0.N) (y : S512x1024.Idx) (r : Fin 16384) (hr : r.val = t.val * 512 + (y 0).val) (k : Fin 1024) (hk : k.val = (y 1).val) :
    k0_pay4 (iblk m c 0 t) (iblk m c 1 t) (iblk m c 2 t) y = val_main_v19 (F := Ideal) (m ((c : Thread nD τ).loc main_arg0)) (m ((c : Thread nD τ).loc main_arg1)) (m ((c : Thread nD τ).loc main_arg2)) (ix2 r k) := by
  have hy : y = ix2 (y 0) (y 1) := funext (Fin.forall_fin_two.mpr ⟨rfl, rfl⟩)
  have hy1 : (y 1).val < 1024 := (y 1).isLt
  have hk' : k = y 1 := Fin.ext hk
  subst hk'
  refine (congrArg _ hy).trans ((q_at _ _ _ (y 0) (y 1)).trans (Eq.trans ?_ (vq_at _ _ _ r (y 1) ⟨(y 1).val, by omega⟩ rfl).symm))
  refine congrArg (fun z => z * Ideal.ofBits FTy.f32 1040187392#32) (lin_congr (fun j => ?_) (fun j => ?_) (fun j => ?_))
  · blk_point [iblk, V, idx t]
  · blk_point [iblk, V, idx t]
  · blk_point [iblk, V, idx t]

theorem k_point (c : Dev nD) (t : Fin cfg0.N) (y : S512x1024.Idx) (r : Fin 16384) (hr : r.val = t.val * 512 + (y 0).val) (k : Fin 1024) (hk : k.val = (y 1).val) :
    k0_pay5 (iblk m c 0 t) (iblk m c 1 t) (iblk m c 3 t) y = val_main_v20 (F := Ideal) (m ((c : Thread nD τ).loc main_arg0)) (m ((c : Thread nD τ).loc main_arg1)) (m ((c : Thread nD τ).loc main_arg2)) (ix2 r k) := by
  have hy : y = ix2 (y 0) (y 1) := funext (Fin.forall_fin_two.mpr ⟨rfl, rfl⟩)
  have hy1 : (y 1).val < 1024 := (y 1).isLt
  have hk' : k = y 1 := Fin.ext hk
  subst hk'
  refine (congrArg _ hy).trans ((k_at _ _ _ (y 0) (y 1)).trans (Eq.trans ?_ (vk_at _ _ _ r (y 1) ⟨1024 + (y 1).val, by omega⟩ rfl).symm))
  refine (lin_congr (fun j => ?_) (fun j => ?_) (fun j => ?_))
  · blk_point [iblk, V, idx t]
  · blk_point [iblk, V, idx t]
  · blk_point [iblk, V, idx t]

theorem v_point (c : Dev nD) (t : Fin cfg0.N) (y : S2x1024x256.Idx) (b : Fin 64) (hb : b.val = t.val * 2 + (y 0).val) (k : Fin 1024) (hk : k.val = (y 1).val) (j : Fin 256) (hj : j.val = (y 2).val) :
    Value.E7 (iblk m c 0 t) (iblk m c 1 t) (iblk m c 4 t) y = val_main_v23 (F := Ideal) (m ((c : Thread nD τ).loc main_arg0)) (m ((c : Thread nD τ).loc main_arg1)) (m ((c : Thread nD τ).loc main_arg2)) (ix3 b k j) := by
  have hy0 : (y 0).val < 2 := (y 0).isLt
  have hy1 : (y 1).val < 1024 := (y 1).isLt
  have hy2 : (y 2).val < 256 := (y 2).isLt
  have h32 : t.val < 32 := (idx t).2.2.2.2.2.2.2.2
  have hi : Value.ix7_0 y = ix2 (⟨(y 1).val, hy1⟩ : Fin 1024) (⟨(y 0).val * 256 + (y 2).val, by omega⟩ : Fin 512) := funext (Fin.forall_fin_two.mpr ⟨rfl, rfl⟩)
  obtain rfl : k = ⟨(y 1).val, hy1⟩ := Fin.ext hk
  refine (congrArg _ hi).trans ((v_at _ _ _ _ _).trans (Eq.trans ?_ (vv_at _ _ _ b _ j ⟨t.val * 512 + ((y 0).val * 256 + (y 2).val), by omega⟩ (by rw [hb, hj]; show t.val * 512 + ((y 0).val * 256 + (y 2).val) = _; omega) ⟨2048 + (y 1).val, by omega⟩ rfl).symm))
  refine lin_congr (fun j => ?_) (fun j => ?_) (fun j => ?_)
  · blk_point [iblk, V, idx t]
  · blk_point [iblk, V, idx t]
  · blk_point [iblk, V, idx t]

/-! ## The result arrays -/

theorem q_final (c : Dev nD) : (dats m 0 c).arrAt 5 cfg0.N = val_main_v19 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5, q_out]
  have h32 : t.val < 32 := (idx t).2.2.2.2.2.2.2.2
  have hy0 : (y 0).val < 512 := (y 0).isLt
  refine (q_point m c t y ⟨t.val * 512 + (y 0).val, by omega⟩ rfl (y 1) rfl).trans (congrArg _ ?_)
  blk_ext [idx t]

theorem k_final (c : Dev nD) : (dats m 0 c).arrAt 6 cfg0.N = val_main_v20 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6, k_out]
  have h32 : t.val < 32 := (idx t).2.2.2.2.2.2.2.2
  have hy0 : (y 0).val < 512 := (y 0).isLt
  refine (k_point m c t y ⟨t.val * 512 + (y 0).val, by omega⟩ rfl (y 1) rfl).trans (congrArg _ ?_)
  blk_ext [idx t]

theorem v_final (c : Dev nD) : (dats m 0 c).arrAt 7 cfg0.N = val_main_v23 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7, v_out]
  have h32 : t.val < 32 := (idx t).2.2.2.2.2.2.2.2
  have hy0 : (y 0).val < 2 := (y 0).isLt
  refine (v_point m c t y ⟨t.val * 2 + (y 0).val, by omega⟩ rfl (y 1) rfl (y 2) rfl).trans (congrArg _ ?_)
  blk_ext [idx t]

/-- The call and its reference, from equal arguments, give equal results. -/
theorem algebraic : Cert.algebraic_Kernel5Ideal_Reference5Ideal (hKernel5Ideal := Cert.Kernel5Ideal.Gen.facts) (hReference5Ideal := Cert.Reference5Ideal.Gen.facts) := by
  intro m g m' g' _ hagree
  refine ⟨fun c => (dats m 0 c).arrAt 5 cfg0.N, fun c => (dats m 0 c).arrAt 6 cfg0.N, fun c => (dats m 0 c).arrAt 7 cfg0.N, Cert.Kernel5Ideal.Value.run_blocks m g,
    (θ_run Cert.Reference5Ideal.defs _ _).mono ?_ (Cert.Reference5Ideal.Value.run m' g')⟩
  intro r h c
  obtain ⟨h0, h1, h2⟩ := hagree c
  obtain ⟨hq, hk, hv, hargs⟩ := h c
  refine ⟨(hq.trans (val_main_v19_eq _ _ _)).trans (Eq.trans ?_ (q_final m c).symm), (hk.trans (val_main_v20_eq _ _ _)).trans (Eq.trans ?_ (k_final m c).symm),
    (hv.trans (val_main_v23_eq _ _ _)).trans (Eq.trans ?_ (v_final m c).symm), hargs⟩
  · exact congr (congr (congrArg (val_main_v19 (F := Ideal)) h0) h1) h2
  · exact congr (congr (congrArg (val_main_v20 (F := Ideal)) h0) h1) h2
  · exact congr (congr (congrArg (val_main_v23 (F := Ideal)) h0) h1) h2

end Cert.Kernel5Ideal.Proj

end
-- ==== Proof.Proj6.Math.lean ====
module

public import proofs.«01_k».proof.Proof.Gen.Kernel6Ideal.Value
public import proofs.«01_k».proof.Proof.Proj5.Math
public import proofs.«01_k».proof.Proof.Gen.Reference6Ideal.Read
public import Idealize.ShloMosaic.Lib.Pointwise

/-! # The projections before the differential attention, entry by entry -/

@[expose] public section

set_option maxRecDepth 16384

noncomputable section

namespace Cert.Kernel6Ideal.Proj

open Idealize.ShloMosaic Idealize.ShloMosaic.TcCoe Idealize.ShloMosaic.Tactic
open Cert.Kernel6Ideal.Gen
open Cert.Kernel2Ideal.Ffn (nrm)
open Cert.Kernel5Ideal.Proj (lin lin_congr)

section Block

variable (x0 : Vec Ideal S512x1024 .f32) (x1 : Vec Ideal S1x1024 .f32) (w : Vec Ideal S1024x1024 .bf16)

theorem norm_at (r : Fin 512) (c : Fin 1024) : k0_pay2 x0 x1 (ix2 r c) = nrm (fun j => x0 (ix2 r j)) (fun j => x1 (ix2 0 j)) c := by
  unfold nrm k0_pay2
  pointwise []

/-- A query of a block, -/
theorem q_at (r : Fin 512) (c : Fin 1024) :
    k0_pay3 x0 x1 w (ix2 r c) = lin (nrm (fun j => x0 (ix2 r j)) (fun j => x1 (ix2 0 j))) (fun x => w (ix2 x c)) * Ideal.ofBits FTy.f32 1040187392#32 := by
  unfold lin
  simp only [← norm_at]
  unfold k0_pay3
  generalize k0_pay2 x0 x1 = v
  pointwise []

/-- a key, -/
theorem k_at (r : Fin 512) (c : Fin 1024) : k0_pay4 x0 x1 w (ix2 r c) = lin (nrm (fun j => x0 (ix2 r j)) (fun j => x1 (ix2 0 j))) (fun x => w (ix2 x c)) := by
  unfold lin
  simp only [← norm_at]
  unfold k0_pay4
  generalize k0_pay2 x0 x1 = v
  pointwise []

/-- and a value: columns are rows there. -/
theorem v_at (c : Fin 1024) (r : Fin 512) : k0_pay5 x0 x1 w (ix2 c r) = lin (nrm (fun j => x0 (ix2 r j)) (fun j => x1 (ix2 0 j))) (fun x => w (ix2 c x)) := by
  have e : k0_pay5 x0 x1 w (ix2 c r) = ∑ x, w (ix2 c x) * k0_pay2 x0 x1 (ix2 r x) := by
    unfold k0_pay5
    generalize k0_pay2 x0 x1 = v
    pointwise []
  rw [e]
  unfold lin
  simp only [norm_at]
  exact Finset.sum_congr rfl fun x _ => mul_comm _ _

end Block

section Ref

open Cert.Reference6Ideal.Read

variable (x0 : Vec Ideal Cert.Reference6Ideal.S16384x1024 .f32) (x1 : Vec Ideal Cert.Reference6Ideal.S1024 .f32) (w : Vec Ideal Cert.Reference6Ideal.S1024x1024 .f32)

theorem v12_at (r : Fin 16384) (c : Fin 1024) : val_main_v12 (F := Ideal) x0 x1 (ix2 r c) = nrm (fun j => x0 (ix2 r j)) (fun j => x1 (ix1 j)) c := by
  unfold nrm val_main_v12 val_main_v9 val_main_v8 val_main_v7 val_main_v6 val_main_v4 val_main_v2 val_main_v1 val_main_v0
  pointwise [val_main_v11, val_main_v10, val_main_v5, val_main_v3, val_main_cst, val_main_cst_0, val_main_cst_1]

theorem v13_at (r : Fin 16384) (c : Fin 1024) : val_main_v13 (F := Ideal) x0 x1 w (ix2 r c) = lin (nrm (fun j => x0 (ix2 r j)) (fun j => x1 (ix1 j))) (fun x => w (ix2 x c)) := by
  unfold lin
  simp only [← v12_at]
  unfold val_main_v13
  generalize val_main_v12 (F := Ideal) x0 x1 = w
  pointwise []

/-- A query of the reference, -/
theorem vq_at (r : Fin 16384) (c : Fin 1024) :
    val_main_v18 (F := Ideal) x0 x1 w (ix2 r c) = lin (nrm (fun j => x0 (ix2 r j)) (fun j => x1 (ix1 j))) (fun x => w (ix2 x c)) * Ideal.ofBits FTy.f32 1040187392#32 := by
  refine Eq.trans ?_ (congrArg (fun z => z * Ideal.ofBits FTy.f32 1040187392#32) (v13_at x0 x1 w r c))
  exact congrArg₂ (fun a b => a * b) rfl ((val_main_v14_apply (F := Ideal) (ix2 r c)).trans rfl)

/-- a key, -/
theorem vk_at (r : Fin 16384) (c : Fin 1024) :
    val_main_v19 (F := Ideal) x0 x1 w (ix2 r c) = lin (nrm (fun j => x0 (ix2 r j)) (fun j => x1 (ix1 j))) (fun x => w (ix2 x c)) :=
  Eq.trans rfl (v13_at x0 x1 w r c)

/-- and a value. -/
theorem vv_at (b : Fin 32) (c : Fin 1024) (j : Fin 512) (r : Fin 16384) (hr : r.val = b.val * 512 + j.val) :
    val_main_v22 (F := Ideal) x0 x1 w (ix3 b c j) = lin (nrm (fun j => x0 (ix2 r j)) (fun j => x1 (ix1 j))) (fun x => w (ix2 x c)) := by
  refine Eq.trans ((val_main_v22_apply x0 x1 w (ix3 b c j)).trans ((val_main_v21_apply x0 x1 w _).trans (Eq.trans (congrArg (val_main_v13 (F := Ideal) x0 x1 w) ?_) rfl))) (v13_at x0 x1 w r c)
  have hj := j.isLt
  have hc := c.isLt
  refine funext (Fin.forall_fin_two.mpr ⟨Fin.ext ?_, Fin.ext ?_⟩)
  · show ((b.val * 512 + j.val) * 1024 + c.val) / 1024 = r.val
    omega
  · show ((b.val * 512 + j.val) * 1024 + c.val) % 1024 = c.val
    omega

end Ref

end Cert.Kernel6Ideal.Proj

end
-- ==== Proof.Proj6.Value.lean ====
module

public import proofs.«01_k».proof.Proof.Proj6.Math
public import proofs.«01_k».proof.Proof.Gen.Reference6Ideal.Run
public import proofs.«01_k».proof.Defs
public import Idealize.ShloMosaic.Lib.Pipeline.ValueKit
public import Idealize.ShloMosaic.Lib.Claim

/-! # The projections before the differential attention are the reference's -/

@[expose] public section

set_option maxRecDepth 16384

noncomputable section

namespace Cert.Kernel6Ideal.Proj

open Idealize.ShloMosaic Idealize.ShloMosaic.TcCoe Idealize.ShloMosaic.Tactic Idealize.SL.Sem
open Cert.Kernel6Ideal.Gen Cert.Reference6Ideal.Read
open Cert.Kernel2Ideal.Ffn (nrm)
open Cert.Kernel5Ideal.Proj (lin lin_congr)

/-- Where every window's block lies. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0, 0] ∧ t.val < 32 :=
  (by decide +kernel : ∀ t : Fin grid0.N, _)

/-! ## What the body leaves in its three blocks -/

theorem zeros : ∀ a : Fin 2, (![0, 0] : Fin 2 → ℕ) a = 0 := (Fin.forall_fin_two.mpr ⟨rfl, rfl⟩)

theorem ld_x (x : Vec Ideal S512x1024 .f32) : View.ld x r0_0 = x := View.ld_unit_lit (S := S512x1024) _ x zeros
theorem ld_g (x : Vec Ideal S1x1024 .f32) : View.ld x r0_1 = x := View.ld_unit_lit (S := S1x1024) _ x zeros
theorem ld_w (x : Vec Ideal S1024x1024 .bf16) : View.ld x r0_2 = x := View.ld_unit_lit (S := S1024x1024) _ x zeros

theorem q_out (x0 : Vec Ideal S512x1024 .f32) (x1 : Vec Ideal S1x1024 .f32) (x2 x3 x4 : Vec Ideal S1024x1024 .bf16) : out0_5 x0 x1 x2 x3 x4 = k0_pay3 x0 x1 x2 := by
  unfold out0_5
  rw [ld_x, ld_g, ld_w]
  exact View.canon_cons_unit_lit (S := S512x1024) _ _ _ zeros

theorem k_out (x0 : Vec Ideal S512x1024 .f32) (x1 : Vec Ideal S1x1024 .f32) (x2 x3 x4 : Vec Ideal S1024x1024 .bf16) : out0_6 x0 x1 x2 x3 x4 = k0_pay4 x0 x1 x3 := by
  unfold out0_6
  rw [ld_x, ld_g, ld_w]
  exact View.canon_cons_unit_lit (S := S512x1024) _ _ _ zeros

theorem v_out (x0 : Vec Ideal S512x1024 .f32) (x1 : Vec Ideal S1x1024 .f32) (x2 x3 x4 : Vec Ideal S1024x1024 .bf16) : out0_7 x0 x1 x2 x3 x4 = Value.E7 x0 x1 x4 := by
  unfold out0_7
  rw [ld_x, ld_g, ld_w]
  exact funext fun y => Value.canon7_eq x0 x1 x4 y

variable (m : (ℓ : Loc nD τ sig) → Buf (Elt Ideal) ℓ)

/-! ## One element of one point's blocks -/

theorem q_point (c : Dev nD) (t : Fin cfg0.N) (y : S512x1024.Idx) (r : Fin 16384) (hr : r.val = t.val * 512 + (y 0).val) (k : Fin 1024) (hk : k.val = (y 1).val) :
    k0_pay3 (iblk m c 0 t) (iblk m c 1 t) (iblk m c 2 t) y = val_main_v18 (F := Ideal) (m ((c : Thread nD τ).loc main_arg0)) (m ((c : Thread nD τ).loc main_arg1)) (m ((c : Thread nD τ).loc main_arg2)) (ix2 r k) := by
  have hy : y = ix2 (y 0) (y 1) := funext (Fin.forall_fin_two.mpr ⟨rfl, rfl⟩)
  have hy1 : (y 1).val < 1024 := (y 1).isLt
  have hk' : k = y 1 := Fin.ext hk
  subst hk'
  refine (congrArg _ hy).trans ((q_at _ _ _ (y 0) (y 1)).trans (Eq.trans ?_ (vq_at _ _ _ r (y 1)).symm))
  refine congrArg (fun z => z * Ideal.ofBits FTy.f32 1040187392#32) (lin_congr (fun j => ?_) (fun j => ?_) (fun j => ?_))
  · blk_point [iblk, V, idx t]
  · blk_point [iblk, V, idx t]
  · blk_point [iblk, V, idx t]

theorem k_point (c : Dev nD) (t : Fin cfg0.N) (y : S512x1024.Idx) (r : Fin 16384) (hr : r.val = t.val * 512 + (y 0).val) (k : Fin 1024) (hk : k.val = (y 1).val) :
    k0_pay4 (iblk m c 0 t) (iblk m c 1 t) (iblk m c 3 t) y = val_main_v19 (F := Ideal) (m ((c : Thread nD τ).loc main_arg0)) (m ((c : Thread nD τ).loc main_arg1)) (m ((c : Thread nD τ).loc main_arg3)) (ix2 r k) := by
  have hy : y = ix2 (y 0) (y 1) := funext (Fin.forall_fin_two.mpr ⟨rfl, rfl⟩)
  have hy1 : (y 1).val < 1024 := (y 1).isLt
  have hk' : k = y 1 := Fin.ext hk
  subst hk'
  refine (congrArg _ hy).trans ((k_at _ _ _ (y 0) (y 1)).trans (Eq.trans ?_ (vk_at _ _ _ r (y 1)).symm))
  refine (lin_congr (fun j => ?_) (fun j => ?_) (fun j => ?_))
  · blk_point [iblk, V, idx t]
  · blk_point [iblk, V, idx t]
  · blk_point [iblk, V, idx t]

theorem v_point (c : Dev nD) (t : Fin cfg0.N) (y : S1x1024x512.Idx) (b : Fin 32) (hb : b.val = t.val * 1 + (y 0).val) (k : Fin 1024) (hk : k.val = (y 1).val) (j : Fin 512) (hj : j.val = (y 2).val) :
    Value.E7 (iblk m c 0 t) (iblk m c 1 t) (iblk m c 4 t) y = val_main_v22 (F := Ideal) (m ((c : Thread nD τ).loc main_arg0)) (m ((c : Thread nD τ).loc main_arg1)) (m ((c : Thread nD τ).loc main_arg4)) (ix3 b k j) := by
  have hy0 : (y 0).val < 1 := (y 0).isLt
  have hy1 : (y 1).val < 1024 := (y 1).isLt
  have hy2 : (y 2).val < 512 := (y 2).isLt
  have h32 : t.val < 32 := (idx t).2.2.2.2.2.2.2.2
  have hi : Value.ix7_0 y = ix2 (⟨(y 1).val, hy1⟩ : Fin 1024) (⟨(y 2).val, by omega⟩ : Fin 512) := funext (Fin.forall_fin_two.mpr ⟨rfl, rfl⟩)
  obtain rfl : k = ⟨(y 1).val, hy1⟩ := Fin.ext hk
  refine (congrArg _ hi).trans ((v_at _ _ _ _ _).trans (Eq.trans ?_ (vv_at _ _ _ b _ j ⟨t.val * 512 + ((y 2).val), by omega⟩ (by rw [hb, hj]; show t.val * 512 + (y 2).val = _; omega)).symm))
  refine lin_congr (fun j => ?_) (fun j => ?_) (fun j => ?_)
  · blk_point [iblk, V, idx t]
  · blk_point [iblk, V, idx t]
  · blk_point [iblk, V, idx t]

/-! ## The result arrays -/

theorem q_final (c : Dev nD) : (dats m 0 c).arrAt 5 cfg0.N = val_main_v18 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5, q_out]
  have h32 : t.val < 32 := (idx t).2.2.2.2.2.2.2.2
  have hy0 : (y 0).val < 512 := (y 0).isLt
  refine (q_point m c t y ⟨t.val * 512 + (y 0).val, by omega⟩ rfl (y 1) rfl).trans (congrArg _ ?_)
  blk_ext [idx t]

theorem k_final (c : Dev nD) : (dats m 0 c).arrAt 6 cfg0.N = val_main_v19 (F := Ideal) (m ((c : Thread nD τ).loc main_arg0)) (m ((c : Thread nD τ).loc main_arg1)) (m ((c : Thread nD τ).loc main_arg3)) := by
  refine (dats m 0 c).arrAt_eq_of_covers 6 _ (by decide +kernel) fun t _ y => ?_
  blk_simp
  rw [after0_6, k_out]
  have h32 : t.val < 32 := (idx t).2.2.2.2.2.2.2.2
  have hy0 : (y 0).val < 512 := (y 0).isLt
  refine (k_point m c t y ⟨t.val * 512 + (y 0).val, by omega⟩ rfl (y 1) rfl).trans (congrArg _ ?_)
  blk_ext [idx t]

theorem v_final (c : Dev nD) : (dats m 0 c).arrAt 7 cfg0.N = val_main_v22 (F := Ideal) (m ((c : Thread nD τ).loc main_arg0)) (m ((c : Thread nD τ).loc main_arg1)) (m ((c : Thread nD τ).loc main_arg4)) := by
  refine (dats m 0 c).arrAt_eq_of_covers 7 _ (by decide +kernel) fun t _ y => ?_
  blk_simp
  rw [after0_7, v_out]
  have h32 : t.val < 32 := (idx t).2.2.2.2.2.2.2.2
  have hy0 : (y 0).val < 1 := (y 0).isLt
  refine (v_point m c t y ⟨t.val * 1 + (y 0).val, by omega⟩ rfl (y 1) rfl (y 2) rfl).trans (congrArg _ ?_)
  blk_ext [idx t]

/-- The call and its reference, from equal arguments, give equal results. -/
theorem algebraic : Cert.algebraic_Kernel6Ideal_Reference6Ideal (hKernel6Ideal := Cert.Kernel6Ideal.Gen.facts) (hReference6Ideal := Cert.Reference6Ideal.Gen.facts) := by
  intro m g m' g' _ hagree
  refine ⟨fun c => (dats m 0 c).arrAt 5 cfg0.N, fun c => (dats m 0 c).arrAt 6 cfg0.N, fun c => (dats m 0 c).arrAt 7 cfg0.N, Cert.Kernel6Ideal.Value.run_blocks m g,
    (θ_run Cert.Reference6Ideal.defs _ _).mono ?_ (Cert.Reference6Ideal.Value.run m' g')⟩
  intro r h c
  obtain ⟨h0, h1, h2, h3, h4⟩ := hagree c
  obtain ⟨hq, hk, hv, hargs⟩ := h c
  refine ⟨(hq.trans (val_main_v18_eq _ _ _)).trans (Eq.trans ?_ (q_final m c).symm), (hk.trans (val_main_v19_eq _ _ _)).trans (Eq.trans ?_ (k_final m c).symm),
    (hv.trans (val_main_v22_eq _ _ _)).trans (Eq.trans ?_ (v_final m c).symm), hargs⟩
  · exact congr (congr (congrArg (val_main_v18 (F := Ideal)) h0) h1) h2
  · exact congr (congr (congrArg (val_main_v19 (F := Ideal)) h0) h1) h3
  · exact congr (congr (congrArg (val_main_v22 (F := Ideal)) h0) h1) h4

end Cert.Kernel6Ideal.Proj

end
-- ==== Proof.lean ====
module

public import proofs.«01_k».proof.Defs
public import proofs.«01_k».proof.Proof.NaBits.Frame
public import proofs.«01_k».proof.Proof.Na.Value
public import proofs.«01_k».proof.Proof.Ffn.Value
public import proofs.«01_k».proof.Proof.Ffn3.Value
public import proofs.«01_k».proof.Proof.Ffn4.Value
public import proofs.«01_k».proof.Proof.Proj5.Value
public import proofs.«01_k».proof.Proof.Proj6.Value
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.ReferenceIdeal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Adequacy
public import Idealize.ShloMosaic.Init
public import Idealize.ShloMosaic.Lib.Claim

@[expose] public section

noncomputable section

namespace Cert.Proof

open Idealize.ShloMosaic Idealize.SL.Sem

/-- The references have no semaphores and leave their arguments alone. -/
theorem frame_reference : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem frame_reference2 : Cert.quiescent_Reference2Ideal (hReference2Ideal := Cert.Reference2Ideal.Gen.facts) := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)

theorem frame_reference3 : Cert.quiescent_Reference3Ideal (hReference3Ideal := Cert.Reference3Ideal.Gen.facts) := fun m g _ =>
  (θ_run Cert.Reference3Ideal.defs _ _).mono (fun r h => ⟨fun c => (h c).2, Idealize.ShloMosaic.sem_eq_zero_of_no_sems (by decide) r.2⟩)
    (Cert.Reference3Ideal.Value.run (F := Ideal) m g)

theorem frame_reference4 : Cert.quiescent_Reference4Ideal (hReference4Ideal := Cert.Reference4Ideal.Gen.facts) := fun m g _ =>
  (θ_run Cert.Reference4Ideal.defs _ _).mono (fun r h => ⟨fun c => (h c).2, Idealize.ShloMosaic.sem_eq_zero_of_no_sems (by decide) r.2⟩)
    (Cert.Reference4Ideal.Value.run (F := Ideal) m g)

theorem frame_reference5 : Cert.quiescent_Reference5Ideal (hReference5Ideal := Cert.Reference5Ideal.Gen.facts) := fun m g _ =>
  (θ_run Cert.Reference5Ideal.defs _ _).mono (fun r h => ⟨fun c => (h c).2.2.2, Idealize.ShloMosaic.sem_eq_zero_of_no_sems (by decide) r.2⟩)
    (Cert.Reference5Ideal.Value.run (F := Ideal) m g)

theorem frame_reference6 : Cert.quiescent_Reference6Ideal (hReference6Ideal := Cert.Reference6Ideal.Gen.facts) := fun m g _ =>
  (θ_run Cert.Reference6Ideal.defs _ _).mono (fun r h => ⟨fun c => (h c).2.2.2, Idealize.ShloMosaic.sem_eq_zero_of_no_sems (by decide) r.2⟩)
    (Cert.Reference6Ideal.Value.run (F := Ideal) m g)

theorem claim : Cert.Claim := by
  refine ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite.Gen.facts,
    fun m g _ => Cert.Kernel.Na.frame m g, fun m g _ => Cert.KernelIdeal.Na.frame m g, fun m g _ => Cert.KernelIdeal.Na.frame m g,
    frame_reference, fun m g _ => frame_reference m g (by trivial),
    fun m g _ => Cert.Kernel2.Gen.frame m g, fun m g _ => Cert.Kernel2Ideal.Gen.frame m g, frame_reference2,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    fun m g _ => Cert.Kernel6.Gen.frame m g, fun m g _ => Cert.Kernel6Ideal.Gen.frame m g, frame_reference6,
    IdealRules.named_const.statement _ _ _ _ _ rfl, Cert.KernelIdeal.Na.algebraic, trivial, Cert.Kernel2Ideal.Ffn.algebraic,
    trivial, Cert.Kernel3Ideal.Ffn.algebraic, trivial, Cert.Kernel4Ideal.Ffn.algebraic,
    trivial, Cert.Kernel5Ideal.Proj.algebraic, trivial, Cert.Kernel6Ideal.Proj.algebraic⟩

end Cert.Proof

end
